-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8960x1536 : Shape := ⟨2, ![8960, 1536]⟩
abbrev S8960x192x2 : Shape := ⟨3, ![8960, 192, 2]⟩
abbrev S2x256x8 : Shape := ⟨3, ![2, 256, 8]⟩
abbrev S8960x24 : Shape := ⟨2, ![8960, 24]⟩
abbrev S1536x1536 : Shape := ⟨2, ![1536, 1536]⟩
abbrev S_ : Shape := ⟨0, ![]⟩

class Facts : Prop where
  bcast_S_S8960x1536 : S_.BroadcastsInDim S8960x1536 (![] : Fin 0 → Fin S8960x1536.rank)
  bcast_S_S2x256x8 : S_.BroadcastsInDim S2x256x8 (![] : Fin 0 → Fin S2x256x8.rank)
  bcast_S_S8960x24 : S_.BroadcastsInDim S8960x24 (![] : Fin 0 → Fin S8960x24.rank)
  bcast_S_S1536x1536 : S_.BroadcastsInDim S1536x1536 (![] : Fin 0 → Fin S1536x1536.rank)

variable [Facts]

def fn {F : FTy → Type} [FloatOps F] (main_arg0 : FVec F S8960x1536 .bf16) (main_arg1 : IVec S8960x192x2 8) (main_arg2 : FVec F S2x256x8 .bf16) (main_arg3 : FVec F S8960x24 .f32) (main_arg4 : FVec F S1536x1536 .f32) : IVec S8960x1536 1 × IVec S2x256x8 1 × IVec S8960x24 1 × IVec S1536x1536 1 :=
  let main_v0 : FVec F S8960x1536 .bf16 := Host.absf main_arg0
  let main_cst : FVec F S_ .bf16 := constant S_ .bf16 0x7F80#16
  let main_v1 : FVec F S8960x1536 .bf16 := broadcastInDim S8960x1536 ![] bcast_S_S8960x1536 main_cst
  let main_v2 : IVec S8960x1536 1 := cmpf .olt main_v0 main_v1
  let main_v3 : FVec F S2x256x8 .bf16 := Host.absf main_arg2
  let main_cst_0 : FVec F S_ .bf16 := constant S_ .bf16 0x7F80#16
  let main_v4 : FVec F S2x256x8 .bf16 := broadcastInDim S2x256x8 ![] bcast_S_S2x256x8 main_cst_0
  let main_v5 : IVec S2x256x8 1 := cmpf .olt main_v3 main_v4
  let main_v6 : FVec F S8960x24 .f32 := Host.absf main_arg3
  let main_cst_1 : FVec F S_ .f32 := constant S_ .f32 0x7F800000#32
  let main_v7 : FVec F S8960x24 .f32 := broadcastInDim S8960x24 ![] bcast_S_S8960x24 main_cst_1
  let main_v8 : IVec S8960x24 1 := cmpf .olt main_v6 main_v7
  let main_v9 : FVec F S1536x1536 .f32 := Host.absf main_arg4
  let main_cst_2 : FVec F S_ .f32 := constant S_ .f32 0x7F800000#32
  let main_v10 : FVec F S1536x1536 .f32 := broadcastInDim S1536x1536 ![] bcast_S_S1536x1536 main_cst_2
  let main_v11 : IVec S1536x1536 1 := cmpf .olt main_v9 main_v10
  (main_v2, main_v5, main_v8, main_v11)
-- ==== Kernel.lean ====
abbrev S8960x1536 : Shape := ⟨2, ![8960, 1536]⟩
abbrev S8960x192x2 : Shape := ⟨3, ![8960, 192, 2]⟩
abbrev S2x256x8 : Shape := ⟨3, ![2, 256, 8]⟩
abbrev S8960x24 : Shape := ⟨2, ![8960, 24]⟩
abbrev S1536x1536 : Shape := ⟨2, ![1536, 1536]⟩
abbrev S2x192x8960 : Shape := ⟨3, ![2, 192, 8960]⟩
abbrev S2x8x256 : Shape := ⟨3, ![2, 8, 256]⟩
abbrev S24x8960 : Shape := ⟨2, ![24, 8960]⟩
abbrev S192x8960 : Shape := ⟨2, ![192, 8960]⟩
abbrev S1x8960 : Shape := ⟨2, ![1, 8960]⟩
abbrev S1x1 : Shape := ⟨2, ![1, 1]⟩
abbrev S2x192x256 : Shape := ⟨3, ![2, 192, 256]⟩
abbrev S256x1536 : Shape := ⟨2, ![256, 1536]⟩
abbrev S24x256 : Shape := ⟨2, ![24, 256]⟩
abbrev S192x256 : Shape := ⟨2, ![192, 256]⟩
abbrev S1x256 : Shape := ⟨2, ![1, 256]⟩
abbrev S1536x256 : Shape := ⟨2, ![1536, 256]⟩
abbrev S256x256 : Shape := ⟨2, ![256, 256]⟩
abbrev S1x8x256 : Shape := ⟨3, ![1, 8, 256]⟩
abbrev S8x256 : Shape := ⟨2, ![8, 256]⟩
abbrev S8x128 : Shape := ⟨2, ![8, 128]⟩
abbrev S1x192x256 : Shape := ⟨3, ![1, 192, 256]⟩
abbrev S1x1x128 : Shape := ⟨3, ![1, 1, 128]⟩
abbrev S1x128 : Shape := ⟨2, ![1, 128]⟩
abbrev S8x128x1 : Shape := ⟨3, ![8, 128, 1]⟩
abbrev S32x8x256 : Shape := ⟨3, ![32, 8, 256]⟩
abbrev S32x256 : Shape := ⟨2, ![32, 256]⟩
abbrev S256 : Shape := ⟨1, ![256]⟩
abbrev S1 : Shape := ⟨1, ![1]⟩

abbrev nBuf : Space → Nat
  | .hbm => 11
  | .vmem => 24
  | .smem => 0
  | _ => 0

abbrev bufTy : (tb : Table) → Fin (tcTables nBuf tb) → BufTy
  | .hbm, ⟨0, _⟩ => ⟨S8960x1536, .bf16⟩
  | .hbm, ⟨1, _⟩ => ⟨S8960x192x2, .i8⟩
  | .hbm, ⟨2, _⟩ => ⟨S2x256x8, .bf16⟩
  | .hbm, ⟨3, _⟩ => ⟨S8960x24, .f32⟩
  | .hbm, ⟨4, _⟩ => ⟨S1536x1536, .f32⟩
  | .hbm, ⟨5, _⟩ => ⟨S2x192x8960, .i8⟩
  | .hbm, ⟨6, _⟩ => ⟨S2x8x256, .bf16⟩
  | .hbm, ⟨7, _⟩ => ⟨S24x8960, .f32⟩
  | .hbm, ⟨8, _⟩ => ⟨S192x8960, .f32⟩
  | .hbm, ⟨9, _⟩ => ⟨S1x8960, .f32⟩
  | .hbm, ⟨10, _⟩ => ⟨S1x1, .f32⟩
  | .local _ .vmem, ⟨0, _⟩ => ⟨S2x192x256, .i8⟩
  | .local _ .vmem, ⟨1, _⟩ => ⟨S2x192x256, .i8⟩
  | .local _ .vmem, ⟨2, _⟩ => ⟨S256x1536, .bf16⟩
  | .local _ .vmem, ⟨3, _⟩ => ⟨S256x1536, .bf16⟩
  | .local _ .vmem, ⟨4, _⟩ => ⟨S2x8x256, .bf16⟩
  | .local _ .vmem, ⟨5, _⟩ => ⟨S24x256, .f32⟩
  | .local _ .vmem, ⟨6, _⟩ => ⟨S24x256, .f32⟩
  | .local _ .vmem, ⟨7, _⟩ => ⟨S1536x1536, .f32⟩
  | .local _ .vmem, ⟨8, _⟩ => ⟨S192x256, .f32⟩
  | .local _ .vmem, ⟨9, _⟩ => ⟨S192x256, .f32⟩
  | .local _ .vmem, ⟨10, _⟩ => ⟨S1x256, .f32⟩
  | .local _ .vmem, ⟨11, _⟩ => ⟨S1x256, .f32⟩
  | .local _ .vmem, ⟨12, _⟩ => ⟨S1x1, .f32⟩
  | .local _ .vmem, ⟨13, _⟩ => ⟨S1536x1536, .bf16⟩
  | .local _ .vmem, ⟨14, _⟩ => ⟨S1536x1536, .bf16⟩
  | .local _ .vmem, ⟨15, _⟩ => ⟨S1536x1536, .bf16⟩
  | .local _ .vmem, ⟨16, _⟩ => ⟨S1536x256, .bf16⟩
  | .local _ .vmem, ⟨17, _⟩ => ⟨S1536x256, .bf16⟩
  | .local _ .vmem, ⟨18, _⟩ => ⟨S1536x256, .bf16⟩
  | .local _ .vmem, ⟨19, _⟩ => ⟨S1536x256, .f32⟩
  | .local _ .vmem, ⟨20, _⟩ => ⟨S1536x256, .f32⟩
  | .local _ .vmem, ⟨21, _⟩ => ⟨S2x192x256, .i32⟩
  | .local _ .vmem, ⟨22, _⟩ => ⟨S2x192x256, .i32⟩
  | .local _ .vmem, ⟨23, _⟩ => ⟨S1x256, .f32⟩
  | _, _ => ⟨S8960x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_scratch10 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![35], ![false]⟩

def k0_cond2 (i : grid0.Coords) : BitVec 1 :=
  let arg0 : BitVec 32 := BitVec.ofNat 32 (i 0).val
  let c34_i32 : BitVec 32 := 34#32
  let v25336 : BitVec 1 := Scalar.cmpi .eq arg0 c34_i32
  let v25337 : BitVec 32 := Scalar.extui v25336
  let c0_i32_10716 : BitVec 32 := 0#32
  let v25338 : BitVec 1 := Scalar.cmpi .ne v25337 c0_i32_10716
  v25338

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x192x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x8x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S24x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8960x1536 : Shape := ⟨2, ![8960, 1536]⟩
abbrev S8960x192x2 : Shape := ⟨3, ![8960, 192, 2]⟩
abbrev S2x256x8 : Shape := ⟨3, ![2, 256, 8]⟩
abbrev S8960x24 : Shape := ⟨2, ![8960, 24]⟩
abbrev S1536x1536 : Shape := ⟨2, ![1536, 1536]⟩
abbrev S2 : Shape := ⟨1, ![2]⟩
abbrev S_ : Shape := ⟨0, ![]⟩
abbrev S8960x192x2x1 : Shape := ⟨4, ![8960, 192, 2, 1]⟩
abbrev S8960x192x2x2 : Shape := ⟨4, ![8960, 192, 2, 2]⟩
abbrev S8960x192x2x8 : Shape := ⟨4, ![8960, 192, 2, 8]⟩
abbrev S8960x192x8 : Shape := ⟨3, ![8960, 192, 8]⟩
abbrev S8960x24x64 : Shape := ⟨3, ![8960, 24, 64]⟩
abbrev S8960x24x1 : Shape := ⟨3, ![8960, 24, 1]⟩
abbrev S8960x192 : Shape := ⟨2, ![8960, 192]⟩
abbrev S8960 : Shape := ⟨1, ![8960]⟩
abbrev S1x8960 : Shape := ⟨2, ![1, 8960]⟩
abbrev S192x8960 : Shape := ⟨2, ![192, 8960]⟩
abbrev S1x1 : Shape := ⟨2, ![1, 1]⟩

abbrev nBuf : Space → Nat
  | .hbm => 48
  | .vmem => 0
  | .smem => 0
  | _ => 0

abbrev bufTy : (tb : Table) → Fin (tcTables nBuf tb) → BufTy
  | .hbm, ⟨0, _⟩ => ⟨S8960x1536, .bf16⟩
  | .hbm, ⟨1, _⟩ => ⟨S8960x192x2, .i8⟩
  | .hbm, ⟨2, _⟩ => ⟨S2x256x8, .bf16⟩
  | .hbm, ⟨3, _⟩ => ⟨S8960x24, .f32⟩
  | .hbm, ⟨4, _⟩ => ⟨S1536x1536, .f32⟩
  | .hbm, ⟨5, _⟩ => ⟨S2x256x8, .f32⟩
  | .hbm, ⟨6, _⟩ => ⟨S8960x192x2, .i32⟩
  | .hbm, ⟨7, _⟩ => ⟨S2, .i32⟩
  | .hbm, ⟨8, _⟩ => ⟨S_, .i32⟩
  | .hbm, ⟨9, _⟩ => ⟨S2, .i32⟩
  | .hbm, ⟨10, _⟩ => ⟨S2, .i1⟩
  | .hbm, ⟨11, _⟩ => ⟨S_, .i32⟩
  | .hbm, ⟨12, _⟩ => ⟨S2, .i32⟩
  | .hbm, ⟨13, _⟩ => ⟨S2, .i32⟩
  | .hbm, ⟨14, _⟩ => ⟨S2, .i32⟩
  | .hbm, ⟨15, _⟩ => ⟨S_, .i32⟩
  | .hbm, ⟨16, _⟩ => ⟨S8960x192x2, .i32⟩
  | .hbm, ⟨17, _⟩ => ⟨S8960x192x2, .i1⟩
  | .hbm, ⟨18, _⟩ => ⟨S_, .i32⟩
  | .hbm, ⟨19, _⟩ => ⟨S8960x192x2, .i32⟩
  | .hbm, ⟨20, _⟩ => ⟨S8960x192x2, .i32⟩
  | .hbm, ⟨21, _⟩ => ⟨S8960x192x2, .i32⟩
  | .hbm, ⟨22, _⟩ => ⟨S8960x192x2, .i32⟩
  | .hbm, ⟨23, _⟩ => ⟨S8960x192x2x1, .i32⟩
  | .hbm, ⟨24, _⟩ => ⟨S8960x192x2x1, .i32⟩
  | .hbm, ⟨25, _⟩ => ⟨S8960x192x2x2, .i32⟩
  | .hbm, ⟨26, _⟩ => ⟨S8960x192x2x8, .f32⟩
  | .hbm, ⟨27, _⟩ => ⟨S_, .f32⟩
  | .hbm, ⟨28, _⟩ => ⟨S8960x192x8, .f32⟩
  | .hbm, ⟨29, _⟩ => ⟨S8960x24x64, .f32⟩
  | .hbm, ⟨30, _⟩ => ⟨S8960x24x1, .f32⟩
  | .hbm, ⟨31, _⟩ => ⟨S8960x24x64, .f32⟩
  | .hbm, ⟨32, _⟩ => ⟨S8960x24x64, .f32⟩
  | .hbm, ⟨33, _⟩ => ⟨S8960x1536, .f32⟩
  | .hbm, ⟨34, _⟩ => ⟨S8960x1536, .f32⟩
  | .hbm, ⟨35, _⟩ => ⟨S8960x1536, .f32⟩
  | .hbm, ⟨36, _⟩ => ⟨S8960x1536, .f32⟩
  | .hbm, ⟨37, _⟩ => ⟨S8960x1536, .f32⟩
  | .hbm, ⟨38, _⟩ => ⟨S8960x192x8, .f32⟩
  | .hbm, ⟨39, _⟩ => ⟨S_, .f32⟩
  | .hbm, ⟨40, _⟩ => ⟨S8960x192, .f32⟩
  | .hbm, ⟨41, _⟩ => ⟨S_, .f32⟩
  | .hbm, ⟨42, _⟩ => ⟨S8960, .f32⟩
  | .hbm, ⟨43, _⟩ => ⟨S_, .f32⟩
  | .hbm, ⟨44, _⟩ => ⟨S_, .f32⟩
  | .hbm, ⟨45, _⟩ => ⟨S1x8960, .f32⟩
  | .hbm, ⟨46, _⟩ => ⟨S192x8960, .f32⟩
  | .hbm, ⟨47, _⟩ => ⟨S1x1, .f32⟩
  | _, _ => ⟨S8960x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.Block.lean ====
/- What one grid point of the kernel computes, as a function of the arrays it reads.

   The kernel's body is straight-line code: 384 decoded tiles of 8 by 128, 6 row chunks of the product.
   Each tile is the same function of its position, and so is each chunk; here they are defined once, by position,
   over `Readers`: what the body gets when it loads a rectangle of each of its buffers. -/
module

public import proofs.«01_k».proof.Proof.Gen.KernelIdeal

@[expose] public section

noncomputable section

namespace Cert.KernelIdeal.Block

open Cert.KernelIdeal Cert.KernelIdeal.Gen Idealize.ShloMosaic

/-- The offsets `a` plus the sizes `b` stay within `c`, on two axes. -/
theorem inb2 {a0 a1 b0 b1 c0 c1 : ℕ} (h0 : a0 + b0 ≤ c0) (h1 : a1 + b1 ≤ c1) :
    ∀ i, (![a0, a1] : Fin 2 → ℕ) i + (![b0, b1] : Fin 2 → ℕ) i ≤ (![c0, c1] : Fin 2 → ℕ) i := by
  intro i
  match i with
  | ⟨0, _⟩ => exact h0
  | ⟨1, _⟩ => exact h1

/-- The offsets `a` plus the sizes `b` stay within `c`, on three axes. -/
theorem inb3 {a0 a1 a2 b0 b1 b2 c0 c1 c2 : ℕ} (h0 : a0 + b0 ≤ c0) (h1 : a1 + b1 ≤ c1) (h2 : a2 + b2 ≤ c2) :
    ∀ i, (![a0, a1, a2] : Fin 3 → ℕ) i + (![b0, b1, b2] : Fin 3 → ℕ) i ≤ (![c0, c1, c2] : Fin 3 → ℕ) i := by
  intro i
  match i with
  | ⟨0, _⟩ => exact h0
  | ⟨1, _⟩ => exact h1
  | ⟨2, _⟩ => exact h2

/-- The zero offsets on two axes. -/
theorem zz2 : (![0, 0] : Fin 2 → ℕ) = fun _ => 0 := by
  funext i
  match i with
  | ⟨0, _⟩ => rfl
  | ⟨1, _⟩ => rfl

/-- The members of a family, from number `n - 1` down to number 0: the order in which a body's stores are listed. -/
def pieces {α : Type} {N : ℕ} (P : (n : ℕ) → n < N → α) : (n : ℕ) → n ≤ N → List α
  | 0, _ => []
  | n + 1, h => P n h :: pieces P n (Nat.le_of_succ_le h)

/-- A member of the list is a member of the family. -/
theorem mem_pieces {α : Type} {N : ℕ} (P : (n : ℕ) → n < N → α) (p : α) (n : ℕ) (h : n ≤ N) :
    p ∈ pieces P n h ↔ ∃ k, ∃ hk : k < n, p = P k (lt_of_lt_of_le hk h) := by
  induction n with
  | zero => simp [pieces]
  | succ n ih =>
    rw [pieces, List.mem_cons, ih]
    constructor
    · rintro (rfl | ⟨k, hk, rfl⟩)
      · exact ⟨n, by omega, rfl⟩
      · exact ⟨k, by omega, rfl⟩
    · rintro ⟨k, hk, rfl⟩
      by_cases hkn : k = n
      · subst hkn; exact Or.inl rfl
      · exact Or.inr ⟨k, by omega, rfl⟩

variable {F : FTy → Type} [FloatOps F]

/-- What loading a rectangle of one buffer gives. -/
abbrev Rd (F : FTy → Type) [FloatOps F] (s : Shape) (e : EltTy) := (r : Rect s) → r.shape.Idx → Elt F e

/-- What loading a rectangle of one scratch buffer gives, from the pieces stored to it so far. -/
abbrev PRd (F : FTy → Type) [FloatOps F] (s : Shape) (e : EltTy) := List (View.Piece (Elt F) s e) → Rd F s e

variable (F) in
/-- The loads of one grid point: the five input blocks, the three stored parts of the transposed `h`, and the scratch
    buffers the point fills before it reads them. -/
structure Readers where
  codes : Rd F S2x192x256 .i8
  w : Rd F S256x1536 .bf16
  cb : Rd F S2x8x256 .bf16
  gs : Rd F S24x256 .f32
  h0 : Rd F S1536x1536 .bf16
  h1 : Rd F S1536x1536 .bf16
  h2 : Rd F S1536x1536 .bf16
  r0 : PRd F S1536x256 .bf16
  r1 : PRd F S1536x256 .bf16
  r2 : PRd F S1536x256 .bf16
  rf : PRd F S1536x256 .f32
  wt : PRd F S1536x256 .f32
  ci : PRd F S2x192x256 .i32
  cs : PRd F S2x192x256 .i32

/-! ## The decoded tile -/

/-- A row of 128 codes repeated over the eight sublanes. -/
def rowOf (v : Vec F S1x1x128 .i32) : IVec S8x128 32 :=
  broadcastTo S8x128 (shapeCast S1x128 (shapeCast S1x128 v shapeCasts_S1x1x128_S1x128) shapeCasts_S1x128_S1x128) broadcasts_S1x128_S8x128

/-- The lookup index: negative ones count from the end (there are none), through a third axis of length 1 and back. -/
def wrapIdx (i : IVec S8x128 32) : IVec S8x128 32 :=
  shapeCast S8x128 (shapeCast S8x128x1 (select (cmpi .slt i (broadcast S8x128 0#32)) (addi i (broadcast S8x128 128#32)) i)
    shapeCasts_S8x128_S8x128x1) shapeCasts_S8x128x1_S8x128

/-- One codebook looked up at a tile: in its low half where the shift word is 16, else in its high half. -/
def look (lo hi : FVec F S8x128 .f32) (i s : IVec S8x128 32) : FVec F S8x128 .f32 :=
  select (cmpi .eq s (broadcast S8x128 16#32)) (dynamicGather 1 lo (wrapIdx i)) (dynamicGather 1 hi (wrapIdx i))

/-- One tile of the residual: the weights minus the scaled sum of both codebooks' entries. -/
def tile (lo0 hi0 lo1 hi1 : FVec F S8x128 .f32) (i0 s0 i1 s1 : Vec F S1x1x128 .i32) (g : Vec F S1x128 .f32)
    (w : Vec F S8x128 .f32) : FVec F S8x128 .f32 :=
  shapeCast S8x128 (subf w (mulf (addf (look lo0 hi0 (rowOf i0) (rowOf s0)) (look lo1 hi1 (rowOf i1) (rowOf s1)))
    (broadcastTo S8x128 (shapeCast S1x128 (shapeCast S1x128 g shapeCasts_S1x128_S1x128) shapeCasts_S1x128_S1x128)
      broadcasts_S1x128_S8x128))) shapeCasts_S8x128_S8x128

variable (R : Readers F)

/-- Codebook `m`'s table in single precision. -/
def cbk (m : ℕ) (hm : m < 2) : FVec F S8x256 .f32 :=
  extf .f32 (shapeCast S8x256 (R.cb (Rect.unit ![m, 0, 0] S1x8x256.size (inb3 (show m + 1 ≤ 2 by omega) (by omega) (by omega))))
    shapeCasts_S1x8x256_S8x256) bitsLt_bf16_f32

/-- Entries 0 to 127 of codebook `m`. -/
def lo (m : ℕ) (hm : m < 2) : FVec F S8x128 .f32 := extractStridedSlice S8x128 ![0, 0] (cbk R m hm) slices_S8x256_o0_0_S8x128
/-- Entries 128 to 255 of codebook `m`. -/
def hi (m : ℕ) (hm : m < 2) : FVec F S8x128 .f32 := extractStridedSlice S8x128 ![0, 128] (cbk R m hm) slices_S8x256_o0_128_S8x128

/-- Codebook `m`'s codes as 32-bit words. -/
def code (m : ℕ) (hm : m < 2) : IVec S192x256 32 :=
  extui 32 (shapeCast S192x256 (R.codes (Rect.unit ![m, 0, 0] S1x192x256.size (inb3 (show m + 1 ≤ 2 by omega) (by omega) (by omega))))
    shapeCasts_S1x192x256_S192x256) natLt_8_32

/-- The lookup indices: the codes' low seven bits. -/
def ciV (m : ℕ) (hm : m < 2) : Vec F S1x192x256 .i32 :=
  shapeCast S1x192x256 (andi (code R m hm) (broadcast S192x256 127#32)) shapeCasts_S192x256_S1x192x256
/-- The shift words: 16 for a code below 128, else 0. -/
def csV (m : ℕ) (hm : m < 2) : Vec F S1x192x256 .i32 :=
  shapeCast S1x192x256 (select (cmpi .slt (code R m hm) (broadcast S192x256 128#32)) (broadcast S192x256 16#32) (broadcast S192x256 0#32))
    shapeCasts_S192x256_S1x192x256
/-- The lookup indices as stored. -/
def ciP (m : ℕ) (hm : m < 2) : View.Piece (Elt F) S2x192x256 .i32 :=
  ⟨Rect.unit ![m, 0, 0] S1x192x256.size (inb3 (show m + 1 ≤ 2 by omega) (by omega) (by omega)), ciV R m hm⟩
/-- The shift words as stored. -/
def csP (m : ℕ) (hm : m < 2) : View.Piece (Elt F) S2x192x256 .i32 :=
  ⟨Rect.unit ![m, 0, 0] S1x192x256.size (inb3 (show m + 1 ≤ 2 by omega) (by omega) (by omega)), csV R m hm⟩
/-- Both codebooks' stored lookup indices. -/
def ciL : List (View.Piece (Elt F) S2x192x256 .i32) := pieces (ciP R) 2 (Nat.le_refl _)
/-- Both codebooks' stored shift words. -/
def csL : List (View.Piece (Elt F) S2x192x256 .i32) := pieces (csP R) 2 (Nat.le_refl _)

/-- One chunk of the weights, transposed and in single precision. -/
def wtV (k : ℕ) (hk : k < 6) : Vec F S256x256 .f32 :=
    shapeCast S256x256 (extf .f32 (transpose S256x256 [1, 0] (R.w (Rect.unit ![0, 256 * k] S256x256.size (inb2 (by omega) (by omega))))
      transposes_S256x256_p1_0_S256x256) bitsLt_bf16_f32) shapeCasts_S256x256_S256x256
/-- It as stored. -/
def wtP (k : ℕ) (hk : k < 6) : View.Piece (Elt F) S1536x256 .f32 :=
  ⟨Rect.unit ![256 * k, 0] S256x256.size (inb2 (by omega) (by omega)), wtV R k hk⟩
/-- The first `k` chunks of the transposed weights, the newest first. -/
def wtL (k : ℕ) (h : k ≤ 6) : List (View.Piece (Elt F) S1536x256 .f32) := pieces (wtP R) k h

/-- Tile `n` of the residual: group `n / 2`, lanes from `128 * (n % 2)`. -/
def rfV (n : ℕ) (hn : n < 384) : Vec F S8x128 .f32 :=
    tile (lo R 0 (by omega)) (hi R 0 (by omega)) (lo R 1 (by omega)) (hi R 1 (by omega))
      (R.ci (ciL R) (Rect.unit ![0, n / 2, 128 * (n % 2)] S1x1x128.size (inb3 (by omega) (by omega) (by omega))))
      (R.cs (csL R) (Rect.unit ![0, n / 2, 128 * (n % 2)] S1x1x128.size (inb3 (by omega) (by omega) (by omega))))
      (R.ci (ciL R) (Rect.unit ![1, n / 2, 128 * (n % 2)] S1x1x128.size (inb3 (by omega) (by omega) (by omega))))
      (R.cs (csL R) (Rect.unit ![1, n / 2, 128 * (n % 2)] S1x1x128.size (inb3 (by omega) (by omega) (by omega))))
      (R.gs (Rect.unit ![n / 2 / 8, 128 * (n % 2)] S1x128.size (inb2 (by omega) (by omega))))
      (R.wt (wtL R 6 (by omega)) (Rect.unit ![8 * (n / 2), 128 * (n % 2)] S8x128.size (inb2 (by omega) (by omega))))
/-- It as stored. -/
def rfP (n : ℕ) (hn : n < 384) : View.Piece (Elt F) S1536x256 .f32 :=
  ⟨Rect.unit ![8 * (n / 2), 128 * (n % 2)] S8x128.size (inb2 (by omega) (by omega)), rfV R n hn⟩
/-- The first `n` tiles of the residual, the newest first. -/
def rfL (n : ℕ) (h : n ≤ 384) : List (View.Piece (Elt F) S1536x256 .f32) := pieces (rfP R) n h

/-! ## The residual split in three parts -/

/-- One chunk of the residual. -/
def rfC (k : ℕ) (hk : k < 6) : Vec F S256x256 .f32 :=
  R.rf (rfL R 384 (by omega)) (Rect.unit ![256 * k, 0] S256x256.size (inb2 (by omega) (by omega)))

/-- The first part of a block: it in half precision. -/
def part0 (v : FVec F S256x256 .f32) : FVec F S256x256 .bf16 := truncf .bf16 v bitsLt_bf16_f32
/-- What the first part leaves. -/
def rest1 (v : FVec F S256x256 .f32) : FVec F S256x256 .f32 := subf v (extf .f32 (part0 v) bitsLt_bf16_f32)
/-- The second part of a block. -/
def part1 (v : FVec F S256x256 .f32) : FVec F S256x256 .bf16 := truncf .bf16 (rest1 v) bitsLt_bf16_f32
/-- The third part of a block. -/
def part2 (v : FVec F S256x256 .f32) : FVec F S256x256 .bf16 :=
  truncf .bf16 (subf (rest1 v) (extf .f32 (part1 v) bitsLt_bf16_f32)) bitsLt_bf16_f32

/-- A chunk's part, the part given. -/
def rV (part : FVec F S256x256 .f32 → FVec F S256x256 .bf16) (k : ℕ) (hk : k < 6) : Vec F S256x256 .bf16 :=
  shapeCast S256x256 (part (rfC R k hk)) shapeCasts_S256x256_S256x256
/-- It as stored. -/
def rP (part : FVec F S256x256 .f32 → FVec F S256x256 .bf16) (k : ℕ) (hk : k < 6) : View.Piece (Elt F) S1536x256 .bf16 :=
  ⟨Rect.unit ![256 * k, 0] S256x256.size (inb2 (by omega) (by omega)), rV R part k hk⟩
/-- The first `k` chunks' stored parts, the newest first. -/
def rL (part : FVec F S256x256 .f32 → FVec F S256x256 .bf16) (k : ℕ) (h : k ≤ 6) : List (View.Piece (Elt F) S1536x256 .bf16) :=
  pieces (rP R part) k h

/-- The three parts of the whole residual as the products read them. -/
def r0 : Vec F S1536x256 .bf16 := R.r0 (rL R part0 6 (by omega)) (Rect.unit ![0, 0] S1536x256.size (inb2 (by omega) (by omega)))
/-- The second part of the whole residual. -/
def r1 : Vec F S1536x256 .bf16 := R.r1 (rL R part1 6 (by omega)) (Rect.unit ![0, 0] S1536x256.size (inb2 (by omega) (by omega)))
/-- The third part of the whole residual. -/
def r2 : Vec F S1536x256 .bf16 := R.r2 (rL R part2 6 (by omega)) (Rect.unit ![0, 0] S1536x256.size (inb2 (by omega) (by omega)))

/-! ## The products and the three results -/

/-- The rows of one chunk. -/
def rows (rd : Rd F S1536x1536 .bf16) (n : ℕ) (hn : n < 6) : Vec F S256x1536 .bf16 :=
  rd (Rect.unit ![256 * n, 0] S256x1536.size (inb2 (by omega) (by omega)))

/-- One product, into zero. -/
def mm (a : FVec F S256x1536 .bf16) (b : FVec F S1536x256 .bf16) : FVec F S256x256 .f32 :=
  matmul dot_S256x1536_S1536x256_S256x256_1_0_0_1_n_n none a b (constant S256x256 .f32 0x00000000#32)

/-- One chunk of `h` times the residual: the six leading products of the parts. -/
def yv (n : ℕ) (hn : n < 6) : FVec F S256x256 .f32 :=
  addf (addf (addf (addf (addf (mm (rows R.h2 n hn) (r0 R)) (mm (rows R.h1 n hn) (r1 R))) (mm (rows R.h0 n hn) (r2 R)))
    (mm (rows R.h1 n hn) (r0 R))) (mm (rows R.h0 n hn) (r1 R))) (mm (rows R.h0 n hn) (r0 R))

/-- One chunk of the group errors. -/
def eg (n : ℕ) (hn : n < 6) : FVec F S32x256 .f32 :=
  multiReduction .add [1] S32x256 (shapeCast S32x8x256 (mulf (rfC R n hn) (yv R n hn)) shapeCasts_S256x256_S32x8x256)
    0x00000000#32 reduces_S32x8x256_S32x256 (.inl rfl) rfl

/-- One chunk of the group errors as stored. -/
def egP (n : ℕ) (hn : n < 6) : View.Piece (Elt F) S192x256 .f32 :=
  ⟨Rect.unit ![32 * n, 0] S32x256.size (inb2 (by omega) (by omega)), eg R n hn⟩
/-- The first `n` chunks of the group errors, the newest first. -/
def egL (n : ℕ) (h : n ≤ 6) : List (View.Piece (Elt F) S192x256 .f32) := pieces (egP R) n h

/-- The row errors after the first `n` chunks. -/
def er : (n : ℕ) → n ≤ 6 → FVec F S1x256 .f32
  | 0, _ => broadcast S1x256 (Scalar.ofBits .f32 0x00000000#32)
  | n + 1, h => addf (er n (Nat.le_of_succ_le h))
      (shapeCast S1x256 (multiReduction .add [0] S256 (eg R n h) 0x00000000#32 reduces_S32x256_S256 (.inl rfl) rfl) shapeCasts_S256_S1x256)

/-- The row errors of the grid point. -/
def err : FVec F S1x256 .f32 := er R 6 (by omega)

/-- The accumulator after the point, from what it held. -/
def accOf (acc : Vec F S1x256 .f32) : FVec F S1x256 .f32 := shapeCast S1x256 (addf acc (err R)) shapeCasts_S1x256_S1x256

/-- The total from the accumulator. -/
def totOf (acc : Vec F S1x256 .f32) : FVec F S1x1 .f32 :=
  shapeCast S1x1 (multiReduction .add [1] S1 acc 0x00000000#32 reduces_S1x256_S1 (.inl rfl) rfl) shapeCasts_S1_S1x1

/-- The accumulator cleared. -/
def acc0 : FVec F S1x256 .f32 := shapeCast S1x256 (broadcast S1x256 (Scalar.ofBits .f32 0x00000000#32)) shapeCasts_S1x256_S1x256

/-! ## The transposed parts of `h`, stored at the first grid point -/

/-- Tile `i` of one part of the transposed `h`. -/
def hV (rd : Rd F S1536x1536 .f32) (part : FVec F S256x256 .f32 → FVec F S256x256 .bf16) (i : ℕ) (hi : i < 36) : Vec F S256x256 .bf16 :=
    shapeCast S256x256 (part (transpose S256x256 [1, 0]
      (rd (Rect.unit ![256 * (i % 6), 256 * (i / 6)] S256x256.size (inb2 (by omega) (by omega)))) transposes_S256x256_p1_0_S256x256))
      shapeCasts_S256x256_S256x256
/-- It as stored. -/
def hP (rd : Rd F S1536x1536 .f32) (part : FVec F S256x256 .f32 → FVec F S256x256 .bf16) (i : ℕ) (hi : i < 36) :
    View.Piece (Elt F) S1536x1536 .bf16 :=
  ⟨Rect.unit ![256 * (i / 6), 256 * (i % 6)] S256x256.size (inb2 (by omega) (by omega)), hV rd part i hi⟩
/-- The first `i` tiles of one part of the transposed `h`, the newest first. -/
def hL (rd : Rd F S1536x1536 .f32) (part : FVec F S256x256 .f32 → FVec F S256x256 .bf16) :
    (i : ℕ) → i ≤ 36 → List (View.Piece (Elt F) S1536x1536 .bf16) := pieces (hP rd part)

end Cert.KernelIdeal.Block
-- ==== Proof.Readers.lean ====
/- The loads of a grid point, as the run states them and as plain functions of the arrays read.

   The run states a load of an input block as a load of a buffer holding it, and a load of a scratch buffer as a load of
   the pieces stored to it. Both are the array's entries at the rectangle. -/
module

public import proofs.«01_k».proof.Proof.Gen.KernelIdeal.Frame
public import proofs.«01_k».proof.Proof.Block
public import Idealize.ShloMosaic.Lib.Pipeline.Value

@[expose] public section

noncomputable section

namespace Cert.KernelIdeal.Block

open Cert.KernelIdeal Cert.KernelIdeal.Gen Idealize.ShloMosaic

variable {F : FTy → Type} [FloatOps F]

/-- The loads of a grid point as the run states them. -/
def via (arg1 : Memref sig .tc .vmem S2x192x256 .i8) (harg1 : arg1.IsWhole)
  (arg2 : Memref sig .tc .vmem S256x1536 .bf16) (harg2 : arg2.IsWhole)
  (arg3 : Memref sig .tc .vmem S2x8x256 .bf16) (harg3 : arg3.IsWhole)
  (arg4 : Memref sig .tc .vmem S24x256 .f32) (harg4 : arg4.IsWhole)
  (arg12 : Memref sig .tc .vmem S1536x256 .bf16)
  (arg13 : Memref sig .tc .vmem S1536x256 .bf16)
  (arg14 : Memref sig .tc .vmem S1536x256 .bf16)
  (arg15 : Memref sig .tc .vmem S1536x256 .f32)
  (arg16 : Memref sig .tc .vmem S1536x256 .f32)
  (arg17 : Memref sig .tc .vmem S2x192x256 .i32)
  (arg18 : Memref sig .tc .vmem S2x192x256 .i32)
  (x0 : Vec F S2x192x256 .i8) (x1 : Vec F S256x1536 .bf16) (x2 : Vec F S2x8x256 .bf16) (x3 : Vec F S24x256 .f32)
  (s0 s1 s2 : Rd F S1536x1536 .bf16) : Readers F where
  codes r := View.readAt (Elt F) arg1.view r.toLoadRect (harg1.unread x0)
  w r := View.readAt (Elt F) arg2.view r.toLoadRect (harg2.unread x1)
  cb r := View.readAt (Elt F) arg3.view r.toLoadRect (harg3.unread x2)
  gs r := View.readAt (Elt F) arg4.view r.toLoadRect (harg4.unread x3)
  h0 := s0
  h1 := s1
  h2 := s2
  r0 L r := arg12.view.readCov L r.toLoadRect
  r1 L r := arg13.view.readCov L r.toLoadRect
  r2 L r := arg14.view.readCov L r.toLoadRect
  rf L r := arg15.view.readCov L r.toLoadRect
  wt L r := arg16.view.readCov L r.toLoadRect
  ci L r := arg17.view.readCov L r.toLoadRect
  cs L r := arg18.view.readCov L r.toLoadRect

/-- The loads of a grid point as plain functions of the arrays read. -/
def plain (x0 : Vec F S2x192x256 .i8) (x1 : Vec F S256x1536 .bf16) (x2 : Vec F S2x8x256 .bf16) (x3 : Vec F S24x256 .f32)
  (s0 s1 s2 : Vec F S1536x1536 .bf16) : Readers F where
  codes r := View.ld x0 r
  w r := View.ld x1 r
  cb r := View.ld x2 r
  gs r := View.ld x3 r
  h0 r := View.ld s0 r
  h1 r := View.ld s1 r
  h2 r := View.ld s2 r
  r0 L r := View.ld (View.canon L) r
  r1 L r := View.ld (View.canon L) r
  r2 L r := View.ld (View.canon L) r
  rf L r := View.ld (View.canon L) r
  wt L r := View.ld (View.canon L) r
  ci L r := View.ld (View.canon L) r
  cs L r := View.ld (View.canon L) r

/-- A load of the stored pieces is a load of the array they make. -/
theorem readCov_ld {s : Shape} {e : EltTy} (m : Memref sig .tc .vmem s e) :
    (fun (L : List (View.Piece (Elt F) s e)) (r : Rect s) => m.view.readCov L r.toLoadRect) = fun L r => View.ld (View.canon L) r := by
  funext L r
  rw [View.readCov_eq_canon']

/-- A load of a buffer holding an array is a load of the array. -/
theorem readAt_ld {s : Shape} {e : EltTy} (m : Memref sig .tc .vmem s e) (h : m.IsWhole) (x : Vec F s e) :
    (fun (r : Rect s) => View.readAt (Elt F) m.view r.toLoadRect (h.unread x)) = fun r => View.ld x r := by
  funext r
  rw [View.readAt_eq_ld, h.read_unread]

/-- The run's loads are the plain functions of the arrays. -/
theorem via_eq (arg1 : Memref sig .tc .vmem S2x192x256 .i8) (harg1 : arg1.IsWhole)
  (arg2 : Memref sig .tc .vmem S256x1536 .bf16) (harg2 : arg2.IsWhole)
  (arg3 : Memref sig .tc .vmem S2x8x256 .bf16) (harg3 : arg3.IsWhole)
  (arg4 : Memref sig .tc .vmem S24x256 .f32) (harg4 : arg4.IsWhole)
  (arg12 : Memref sig .tc .vmem S1536x256 .bf16)
  (arg13 : Memref sig .tc .vmem S1536x256 .bf16)
  (arg14 : Memref sig .tc .vmem S1536x256 .bf16)
  (arg15 : Memref sig .tc .vmem S1536x256 .f32)
  (arg16 : Memref sig .tc .vmem S1536x256 .f32)
  (arg17 : Memref sig .tc .vmem S2x192x256 .i32)
  (arg18 : Memref sig .tc .vmem S2x192x256 .i32)
  (x0 : Vec F S2x192x256 .i8) (x1 : Vec F S256x1536 .bf16) (x2 : Vec F S2x8x256 .bf16) (x3 : Vec F S24x256 .f32)
  (s0 s1 s2 : Rd F S1536x1536 .bf16) (t0 t1 t2 : Vec F S1536x1536 .bf16)
  (e0 : s0 = fun r => View.ld t0 r) (e1 : s1 = fun r => View.ld t1 r) (e2 : s2 = fun r => View.ld t2 r) :
  via arg1 harg1 arg2 harg2 arg3 harg3 arg4 harg4 arg12 arg13 arg14 arg15 arg16 arg17 arg18 x0 x1 x2 x3 s0 s1 s2 = plain x0 x1 x2 x3 t0 t1 t2 := by
  subst e0 e1 e2
  unfold via plain
  rw [readAt_ld arg1 harg1, readAt_ld arg2 harg2, readAt_ld arg3 harg3, readAt_ld arg4 harg4]
  simp only [readCov_ld]

end Cert.KernelIdeal.Block
-- ==== Proof.CaseA.lean ====
/- The first grid point: what the run leaves in each buffer, as the named block functions of what it read. -/
module

public import proofs.«01_k».proof.Proof.Gen.KernelIdeal.Frame
public import proofs.«01_k».proof.Proof.Readers
public import Idealize.ShloMosaic.Lib.Pipeline.Value

@[expose] public section

noncomputable section

namespace Cert.KernelIdeal.Block

open Cert.KernelIdeal Cert.KernelIdeal.Gen Idealize.ShloMosaic

variable {F : FTy → Type} [FloatOps F]

variable (c : Dev nD) (i : grid0.Coords)
  (arg1 : Memref sig .tc .vmem S2x192x256 .i8) (harg1 : arg1.IsWhole)
  (arg2 : Memref sig .tc .vmem S256x1536 .bf16) (harg2 : arg2.IsWhole)
  (arg3 : Memref sig .tc .vmem S2x8x256 .bf16) (harg3 : arg3.IsWhole)
  (arg4 : Memref sig .tc .vmem S24x256 .f32) (harg4 : arg4.IsWhole)
  (arg5 : Memref sig .tc .vmem S1536x1536 .f32) (harg5 : arg5.IsWhole)
  (arg6 : Memref sig .tc .vmem S192x256 .f32) (harg6 : arg6.IsWhole)
  (arg7 : Memref sig .tc .vmem S1x256 .f32) (harg7 : arg7.IsWhole)
  (arg8 : Memref sig .tc .vmem S1x1 .f32) (harg8 : arg8.IsWhole)
  (arg9 : Memref sig .tc .vmem S1536x1536 .bf16) (harg9 : arg9.IsWhole)
  (arg10 : Memref sig .tc .vmem S1536x1536 .bf16) (harg10 : arg10.IsWhole)
  (arg11 : Memref sig .tc .vmem S1536x1536 .bf16) (harg11 : arg11.IsWhole)
  (arg12 : Memref sig .tc .vmem S1536x256 .bf16) (harg12 : arg12.IsWhole)
  (arg13 : Memref sig .tc .vmem S1536x256 .bf16) (harg13 : arg13.IsWhole)
  (arg14 : Memref sig .tc .vmem S1536x256 .bf16) (harg14 : arg14.IsWhole)
  (arg15 : Memref sig .tc .vmem S1536x256 .f32) (harg15 : arg15.IsWhole)
  (arg16 : Memref sig .tc .vmem S1536x256 .f32) (harg16 : arg16.IsWhole)
  (arg17 : Memref sig .tc .vmem S2x192x256 .i32) (harg17 : arg17.IsWhole)
  (arg18 : Memref sig .tc .vmem S2x192x256 .i32) (harg18 : arg18.IsWhole)
  (arg19 : Memref sig .tc .vmem S1x256 .f32) (harg19 : arg19.IsWhole)
  (hc0 : cond0_0 i) (hc1 : ¬cond0_1 i)
  (x0 : Vec F S2x192x256 .i8) (x1 : Vec F S256x1536 .bf16) (x2 : Vec F S2x8x256 .bf16) (x3 : Vec F S24x256 .f32) (x4 : Vec F S1536x1536 .f32)

/-- The stores of the group errors. -/
theorem rawA_5 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4).1 =
    egL (via arg1 harg1 arg2 harg2 arg3 harg3 arg4 harg4 arg12 arg13 arg14 arg15 arg16 arg17 arg18 x0 x1 x2 x3
      (fun r => arg9.view.readCov (hL (fun r => View.readAt (Elt F) arg5.view r.toLoadRect (harg5.unread x4)) part0 36 (Nat.le_refl _)) r.toLoadRect)
      (fun r => arg10.view.readCov (hL (fun r => View.readAt (Elt F) arg5.view r.toLoadRect (harg5.unread x4)) part1 36 (Nat.le_refl _)) r.toLoadRect)
      (fun r => arg11.view.readCov (hL (fun r => View.readAt (Elt F) arg5.view r.toLoadRect (harg5.unread x4)) part2 36 (Nat.le_refl _)) r.toLoadRect)) 6 (Nat.le_refl _) := by
  sl_kernel_rfl

/-- The store of the row errors. -/
theorem rawA_6 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4).2.1 =
    [⟨Rect.unit ![0, 0] S1x256.size (inb2 (by omega) (by omega)), err (via arg1 harg1 arg2 harg2 arg3 harg3 arg4 harg4 arg12 arg13 arg14 arg15 arg16 arg17 arg18 x0 x1 x2 x3
      (fun r => arg9.view.readCov (hL (fun r => View.readAt (Elt F) arg5.view r.toLoadRect (harg5.unread x4)) part0 36 (Nat.le_refl _)) r.toLoadRect)
      (fun r => arg10.view.readCov (hL (fun r => View.readAt (Elt F) arg5.view r.toLoadRect (harg5.unread x4)) part1 36 (Nat.le_refl _)) r.toLoadRect)
      (fun r => arg11.view.readCov (hL (fun r => View.readAt (Elt F) arg5.view r.toLoadRect (harg5.unread x4)) part2 36 (Nat.le_refl _)) r.toLoadRect))⟩] := by
  sl_kernel_rfl

/-- The stores of the accumulator. -/
theorem rawA_10 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4).2.2.2.2.2.2.1 =
    ⟨Rect.unit ![0, 0] S1x256.size (inb2 (by omega) (by omega)), accOf (via arg1 harg1 arg2 harg2 arg3 harg3 arg4 harg4 arg12 arg13 arg14 arg15 arg16 arg17 arg18 x0 x1 x2 x3
      (fun r => arg9.view.readCov (hL (fun r => View.readAt (Elt F) arg5.view r.toLoadRect (harg5.unread x4)) part0 36 (Nat.le_refl _)) r.toLoadRect)
      (fun r => arg10.view.readCov (hL (fun r => View.readAt (Elt F) arg5.view r.toLoadRect (harg5.unread x4)) part1 36 (Nat.le_refl _)) r.toLoadRect)
      (fun r => arg11.view.readCov (hL (fun r => View.readAt (Elt F) arg5.view r.toLoadRect (harg5.unread x4)) part2 36 (Nat.le_refl _)) r.toLoadRect))
      (arg19.view.readCov [⟨Rect.unit ![0, 0] S1x256.size (inb2 (by omega) (by omega)), acc0⟩] (Rect.unit ![0, 0] S1x256.size (inb2 (by omega) (by omega)) : Rect S1x256).toLoadRect)⟩ :: [⟨Rect.unit ![0, 0] S1x256.size (inb2 (by omega) (by omega)), acc0⟩] := by
  sl_kernel_rfl

/-- The stores of part 0 of the transposed `h`. -/
theorem rawA_h0 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4).2.2.2.1 =
    hL (fun r => View.readAt (Elt F) arg5.view r.toLoadRect (harg5.unread x4)) part0 36 (Nat.le_refl _) := by
  sl_kernel_rfl

/-- The stores of part 1 of the transposed `h`. -/
theorem rawA_h1 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4).2.2.2.2.1 =
    hL (fun r => View.readAt (Elt F) arg5.view r.toLoadRect (harg5.unread x4)) part1 36 (Nat.le_refl _) := by
  sl_kernel_rfl

/-- The stores of part 2 of the transposed `h`. -/
theorem rawA_h2 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4).2.2.2.2.2.1 =
    hL (fun r => View.readAt (Elt F) arg5.view r.toLoadRect (harg5.unread x4)) part2 36 (Nat.le_refl _) := by
  sl_kernel_rfl

/-- The group errors after the point. -/
theorem outA_5 : out0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 = View.canon (egL (plain x0 x1 x2 x3 (View.canon (hL (fun r => View.ld x4 r) part0 36 (Nat.le_refl _))) (View.canon (hL (fun r => View.ld x4 r) part1 36 (Nat.le_refl _))) (View.canon (hL (fun r => View.ld x4 r) part2 36 (Nat.le_refl _)))) 6 (Nat.le_refl _)) := by
  unfold out0_A_5
  rw [View.read_writes_junk_eq_canon, rawA_5, via_eq arg1 harg1 arg2 harg2 arg3 harg3 arg4 harg4 arg12 arg13 arg14 arg15 arg16 arg17 arg18 x0 x1 x2 x3 _ _ _ _ _ _
    (by rw [readAt_ld arg5 harg5]; exact congrFun (readCov_ld arg9) _) (by rw [readAt_ld arg5 harg5]; exact congrFun (readCov_ld arg10) _) (by rw [readAt_ld arg5 harg5]; exact congrFun (readCov_ld arg11) _)]

/-- The row errors after the point. -/
theorem outA_6 : out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 = err (plain x0 x1 x2 x3 (View.canon (hL (fun r => View.ld x4 r) part0 36 (Nat.le_refl _))) (View.canon (hL (fun r => View.ld x4 r) part1 36 (Nat.le_refl _))) (View.canon (hL (fun r => View.ld x4 r) part2 36 (Nat.le_refl _)))) := by
  unfold out0_A_6
  rw [View.read_writes_junk_eq_canon, rawA_6, via_eq arg1 harg1 arg2 harg2 arg3 harg3 arg4 harg4 arg12 arg13 arg14 arg15 arg16 arg17 arg18 x0 x1 x2 x3 _ _ _ _ _ _
    (by rw [readAt_ld arg5 harg5]; exact congrFun (readCov_ld arg9) _) (by rw [readAt_ld arg5 harg5]; exact congrFun (readCov_ld arg10) _) (by rw [readAt_ld arg5 harg5]; exact congrFun (readCov_ld arg11) _)]
  exact View.canon_unit_zero zz2 _ _

/-- The accumulator after the point. -/
theorem outA_10 : sout0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 = accOf (plain x0 x1 x2 x3 (View.canon (hL (fun r => View.ld x4 r) part0 36 (Nat.le_refl _))) (View.canon (hL (fun r => View.ld x4 r) part1 36 (Nat.le_refl _))) (View.canon (hL (fun r => View.ld x4 r) part2 36 (Nat.le_refl _)))) acc0 := by
  unfold sout0_A_10
  rw [View.read_writes_junk_eq_canon, rawA_10, via_eq arg1 harg1 arg2 harg2 arg3 harg3 arg4 harg4 arg12 arg13 arg14 arg15 arg16 arg17 arg18 x0 x1 x2 x3 _ _ _ _ _ _
    (by rw [readAt_ld arg5 harg5]; exact congrFun (readCov_ld arg9) _) (by rw [readAt_ld arg5 harg5]; exact congrFun (readCov_ld arg10) _) (by rw [readAt_ld arg5 harg5]; exact congrFun (readCov_ld arg11) _)]
  refine (View.canon_cons_unit_zero zz2 _ _ _).trans (congrArg _ ?_)
  exact View.readCov_unit_zero _ zz2 _ _

/-- Part 0 of the transposed `h` after the point. -/
theorem outA_h0 : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 = (View.canon (hL (fun r => View.ld x4 r) part0 36 (Nat.le_refl _))) := by
  unfold sout0_A_0
  rw [View.read_writes_junk_eq_canon, rawA_h0, readAt_ld arg5 harg5]

/-- Part 1 of the transposed `h` after the point. -/
theorem outA_h1 : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 = (View.canon (hL (fun r => View.ld x4 r) part1 36 (Nat.le_refl _))) := by
  unfold sout0_A_1
  rw [View.read_writes_junk_eq_canon, rawA_h1, readAt_ld arg5 harg5]

/-- Part 2 of the transposed `h` after the point. -/
theorem outA_h2 : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 = (View.canon (hL (fun r => View.ld x4 r) part2 36 (Nat.le_refl _))) := by
  unfold sout0_A_2
  rw [View.read_writes_junk_eq_canon, rawA_h2, readAt_ld arg5 harg5]

end Cert.KernelIdeal.Block
-- ==== Proof.CaseB.lean ====
/- The middle grid points: what the run leaves in each buffer, as the named block functions of what it read. -/
module

public import proofs.«01_k».proof.Proof.Gen.KernelIdeal.Frame
public import proofs.«01_k».proof.Proof.Readers
public import Idealize.ShloMosaic.Lib.Pipeline.Value

@[expose] public section

noncomputable section

namespace Cert.KernelIdeal.Block

open Cert.KernelIdeal Cert.KernelIdeal.Gen Idealize.ShloMosaic

variable {F : FTy → Type} [FloatOps F]

variable (c : Dev nD) (i : grid0.Coords)
  (arg1 : Memref sig .tc .vmem S2x192x256 .i8) (harg1 : arg1.IsWhole)
  (arg2 : Memref sig .tc .vmem S256x1536 .bf16) (harg2 : arg2.IsWhole)
  (arg3 : Memref sig .tc .vmem S2x8x256 .bf16) (harg3 : arg3.IsWhole)
  (arg4 : Memref sig .tc .vmem S24x256 .f32) (harg4 : arg4.IsWhole)
  (arg5 : Memref sig .tc .vmem S1536x1536 .f32) (harg5 : arg5.IsWhole)
  (arg6 : Memref sig .tc .vmem S192x256 .f32) (harg6 : arg6.IsWhole)
  (arg7 : Memref sig .tc .vmem S1x256 .f32) (harg7 : arg7.IsWhole)
  (arg8 : Memref sig .tc .vmem S1x1 .f32) (harg8 : arg8.IsWhole)
  (arg9 : Memref sig .tc .vmem S1536x1536 .bf16) (harg9 : arg9.IsWhole)
  (arg10 : Memref sig .tc .vmem S1536x1536 .bf16) (harg10 : arg10.IsWhole)
  (arg11 : Memref sig .tc .vmem S1536x1536 .bf16) (harg11 : arg11.IsWhole)
  (arg12 : Memref sig .tc .vmem S1536x256 .bf16) (harg12 : arg12.IsWhole)
  (arg13 : Memref sig .tc .vmem S1536x256 .bf16) (harg13 : arg13.IsWhole)
  (arg14 : Memref sig .tc .vmem S1536x256 .bf16) (harg14 : arg14.IsWhole)
  (arg15 : Memref sig .tc .vmem S1536x256 .f32) (harg15 : arg15.IsWhole)
  (arg16 : Memref sig .tc .vmem S1536x256 .f32) (harg16 : arg16.IsWhole)
  (arg17 : Memref sig .tc .vmem S2x192x256 .i32) (harg17 : arg17.IsWhole)
  (arg18 : Memref sig .tc .vmem S2x192x256 .i32) (harg18 : arg18.IsWhole)
  (arg19 : Memref sig .tc .vmem S1x256 .f32) (harg19 : arg19.IsWhole)
  (hc0 : ¬cond0_0 i) (hc1 : ¬cond0_1 i)
  (x0 : Vec F S2x192x256 .i8) (x1 : Vec F S256x1536 .bf16) (x2 : Vec F S2x8x256 .bf16) (x3 : Vec F S24x256 .f32) (x4 : Vec F S1536x1536 .f32)
  (xs0 xs1 xs2 : Vec F S1536x1536 .bf16) (xs10 : Vec F S1x256 .f32)

/-- The stores of the group errors. -/
theorem rawB_5 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10).1 =
    egL (via arg1 harg1 arg2 harg2 arg3 harg3 arg4 harg4 arg12 arg13 arg14 arg15 arg16 arg17 arg18 x0 x1 x2 x3
      (fun r => View.readAt (Elt F) arg9.view r.toLoadRect (harg9.unread xs0))
      (fun r => View.readAt (Elt F) arg10.view r.toLoadRect (harg10.unread xs1))
      (fun r => View.readAt (Elt F) arg11.view r.toLoadRect (harg11.unread xs2))) 6 (Nat.le_refl _) := by
  sl_kernel_rfl

/-- The store of the row errors. -/
theorem rawB_6 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10).2.1 =
    [⟨Rect.unit ![0, 0] S1x256.size (inb2 (by omega) (by omega)), err (via arg1 harg1 arg2 harg2 arg3 harg3 arg4 harg4 arg12 arg13 arg14 arg15 arg16 arg17 arg18 x0 x1 x2 x3
      (fun r => View.readAt (Elt F) arg9.view r.toLoadRect (harg9.unread xs0))
      (fun r => View.readAt (Elt F) arg10.view r.toLoadRect (harg10.unread xs1))
      (fun r => View.readAt (Elt F) arg11.view r.toLoadRect (harg11.unread xs2)))⟩] := by
  sl_kernel_rfl

/-- The stores of the accumulator. -/
theorem rawB_10 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10).2.2.2.2.2.2.1 =
    ⟨Rect.unit ![0, 0] S1x256.size (inb2 (by omega) (by omega)), accOf (via arg1 harg1 arg2 harg2 arg3 harg3 arg4 harg4 arg12 arg13 arg14 arg15 arg16 arg17 arg18 x0 x1 x2 x3
      (fun r => View.readAt (Elt F) arg9.view r.toLoadRect (harg9.unread xs0))
      (fun r => View.readAt (Elt F) arg10.view r.toLoadRect (harg10.unread xs1))
      (fun r => View.readAt (Elt F) arg11.view r.toLoadRect (harg11.unread xs2)))
      (View.readAt (Elt F) arg19.view (Rect.unit ![0, 0] S1x256.size (inb2 (by omega) (by omega)) : Rect S1x256).toLoadRect (harg19.unread xs10))⟩ :: [] := by
  sl_kernel_rfl

/-- The group errors after the point. -/
theorem outB_5 : out0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10 = View.canon (egL (plain x0 x1 x2 x3 xs0 xs1 xs2) 6 (Nat.le_refl _)) := by
  unfold out0_B_5
  rw [View.read_writes_junk_eq_canon, rawB_5, via_eq arg1 harg1 arg2 harg2 arg3 harg3 arg4 harg4 arg12 arg13 arg14 arg15 arg16 arg17 arg18 x0 x1 x2 x3 _ _ _ _ _ _
    (readAt_ld arg9 harg9 xs0) (readAt_ld arg10 harg10 xs1) (readAt_ld arg11 harg11 xs2)]

/-- The row errors after the point. -/
theorem outB_6 : out0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10 = err (plain x0 x1 x2 x3 xs0 xs1 xs2) := by
  unfold out0_B_6
  rw [View.read_writes_junk_eq_canon, rawB_6, via_eq arg1 harg1 arg2 harg2 arg3 harg3 arg4 harg4 arg12 arg13 arg14 arg15 arg16 arg17 arg18 x0 x1 x2 x3 _ _ _ _ _ _
    (readAt_ld arg9 harg9 xs0) (readAt_ld arg10 harg10 xs1) (readAt_ld arg11 harg11 xs2)]
  exact View.canon_unit_zero zz2 _ _

/-- The accumulator after the point. -/
theorem outB_10 : sout0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10 = accOf (plain x0 x1 x2 x3 xs0 xs1 xs2) xs10 := by
  unfold sout0_B_10
  rw [View.read_writes_junk_eq_canon, rawB_10, via_eq arg1 harg1 arg2 harg2 arg3 harg3 arg4 harg4 arg12 arg13 arg14 arg15 arg16 arg17 arg18 x0 x1 x2 x3 _ _ _ _ _ _
    (readAt_ld arg9 harg9 xs0) (readAt_ld arg10 harg10 xs1) (readAt_ld arg11 harg11 xs2)]
  refine (View.canon_cons_unit_zero zz2 _ _ _).trans (congrArg _ ?_)
  rw [View.readAt_eq_ld, harg19.read_unread]
  exact View.ld_unit_zero zz2 _ _

end Cert.KernelIdeal.Block
-- ==== Proof.CaseC.lean ====
/- The last grid point: what the run leaves in each buffer, as the named block functions of what it read. -/
module

public import proofs.«01_k».proof.Proof.Gen.KernelIdeal.Frame
public import proofs.«01_k».proof.Proof.Readers
public import Idealize.ShloMosaic.Lib.Pipeline.Value

@[expose] public section

noncomputable section

namespace Cert.KernelIdeal.Block

open Cert.KernelIdeal Cert.KernelIdeal.Gen Idealize.ShloMosaic

variable {F : FTy → Type} [FloatOps F]

variable (c : Dev nD) (i : grid0.Coords)
  (arg1 : Memref sig .tc .vmem S2x192x256 .i8) (harg1 : arg1.IsWhole)
  (arg2 : Memref sig .tc .vmem S256x1536 .bf16) (harg2 : arg2.IsWhole)
  (arg3 : Memref sig .tc .vmem S2x8x256 .bf16) (harg3 : arg3.IsWhole)
  (arg4 : Memref sig .tc .vmem S24x256 .f32) (harg4 : arg4.IsWhole)
  (arg5 : Memref sig .tc .vmem S1536x1536 .f32) (harg5 : arg5.IsWhole)
  (arg6 : Memref sig .tc .vmem S192x256 .f32) (harg6 : arg6.IsWhole)
  (arg7 : Memref sig .tc .vmem S1x256 .f32) (harg7 : arg7.IsWhole)
  (arg8 : Memref sig .tc .vmem S1x1 .f32) (harg8 : arg8.IsWhole)
  (arg9 : Memref sig .tc .vmem S1536x1536 .bf16) (harg9 : arg9.IsWhole)
  (arg10 : Memref sig .tc .vmem S1536x1536 .bf16) (harg10 : arg10.IsWhole)
  (arg11 : Memref sig .tc .vmem S1536x1536 .bf16) (harg11 : arg11.IsWhole)
  (arg12 : Memref sig .tc .vmem S1536x256 .bf16) (harg12 : arg12.IsWhole)
  (arg13 : Memref sig .tc .vmem S1536x256 .bf16) (harg13 : arg13.IsWhole)
  (arg14 : Memref sig .tc .vmem S1536x256 .bf16) (harg14 : arg14.IsWhole)
  (arg15 : Memref sig .tc .vmem S1536x256 .f32) (harg15 : arg15.IsWhole)
  (arg16 : Memref sig .tc .vmem S1536x256 .f32) (harg16 : arg16.IsWhole)
  (arg17 : Memref sig .tc .vmem S2x192x256 .i32) (harg17 : arg17.IsWhole)
  (arg18 : Memref sig .tc .vmem S2x192x256 .i32) (harg18 : arg18.IsWhole)
  (arg19 : Memref sig .tc .vmem S1x256 .f32) (harg19 : arg19.IsWhole)
  (hc0 : ¬cond0_0 i) (hc1 : cond0_1 i)
  (x0 : Vec F S2x192x256 .i8) (x1 : Vec F S256x1536 .bf16) (x2 : Vec F S2x8x256 .bf16) (x3 : Vec F S24x256 .f32) (x4 : Vec F S1536x1536 .f32)
  (xs0 xs1 xs2 : Vec F S1536x1536 .bf16) (xs10 : Vec F S1x256 .f32)

/-- The stores of the group errors. -/
theorem rawC_5 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10).1 =
    egL (via arg1 harg1 arg2 harg2 arg3 harg3 arg4 harg4 arg12 arg13 arg14 arg15 arg16 arg17 arg18 x0 x1 x2 x3
      (fun r => View.readAt (Elt F) arg9.view r.toLoadRect (harg9.unread xs0))
      (fun r => View.readAt (Elt F) arg10.view r.toLoadRect (harg10.unread xs1))
      (fun r => View.readAt (Elt F) arg11.view r.toLoadRect (harg11.unread xs2))) 6 (Nat.le_refl _) := by
  sl_kernel_rfl

/-- The store of the row errors. -/
theorem rawC_6 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10).2.1 =
    [⟨Rect.unit ![0, 0] S1x256.size (inb2 (by omega) (by omega)), err (via arg1 harg1 arg2 harg2 arg3 harg3 arg4 harg4 arg12 arg13 arg14 arg15 arg16 arg17 arg18 x0 x1 x2 x3
      (fun r => View.readAt (Elt F) arg9.view r.toLoadRect (harg9.unread xs0))
      (fun r => View.readAt (Elt F) arg10.view r.toLoadRect (harg10.unread xs1))
      (fun r => View.readAt (Elt F) arg11.view r.toLoadRect (harg11.unread xs2)))⟩] := by
  sl_kernel_rfl

/-- The stores of the accumulator. -/
theorem rawC_10 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10).2.2.2.2.2.2.1 =
    ⟨Rect.unit ![0, 0] S1x256.size (inb2 (by omega) (by omega)), accOf (via arg1 harg1 arg2 harg2 arg3 harg3 arg4 harg4 arg12 arg13 arg14 arg15 arg16 arg17 arg18 x0 x1 x2 x3
      (fun r => View.readAt (Elt F) arg9.view r.toLoadRect (harg9.unread xs0))
      (fun r => View.readAt (Elt F) arg10.view r.toLoadRect (harg10.unread xs1))
      (fun r => View.readAt (Elt F) arg11.view r.toLoadRect (harg11.unread xs2)))
      (View.readAt (Elt F) arg19.view (Rect.unit ![0, 0] S1x256.size (inb2 (by omega) (by omega)) : Rect S1x256).toLoadRect (harg19.unread xs10))⟩ :: [] := by
  sl_kernel_rfl

/-- The store of the total. -/
theorem rawC_7 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10).2.2.1 =
    [⟨Rect.unit ![0, 0] S1x1.size (inb2 (by omega) (by omega)), totOf (arg19.view.readCov
      [⟨Rect.unit ![0, 0] S1x256.size (inb2 (by omega) (by omega)), accOf (via arg1 harg1 arg2 harg2 arg3 harg3 arg4 harg4 arg12 arg13 arg14 arg15 arg16 arg17 arg18 x0 x1 x2 x3
      (fun r => View.readAt (Elt F) arg9.view r.toLoadRect (harg9.unread xs0))
      (fun r => View.readAt (Elt F) arg10.view r.toLoadRect (harg10.unread xs1))
      (fun r => View.readAt (Elt F) arg11.view r.toLoadRect (harg11.unread xs2)))
      (View.readAt (Elt F) arg19.view (Rect.unit ![0, 0] S1x256.size (inb2 (by omega) (by omega)) : Rect S1x256).toLoadRect (harg19.unread xs10))⟩] (Rect.unit ![0, 0] S1x256.size (inb2 (by omega) (by omega)) : Rect S1x256).toLoadRect)⟩] := by
  sl_kernel_rfl

/-- The group errors after the point. -/
theorem outC_5 : out0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10 = View.canon (egL (plain x0 x1 x2 x3 xs0 xs1 xs2) 6 (Nat.le_refl _)) := by
  unfold out0_C_5
  rw [View.read_writes_junk_eq_canon, rawC_5, via_eq arg1 harg1 arg2 harg2 arg3 harg3 arg4 harg4 arg12 arg13 arg14 arg15 arg16 arg17 arg18 x0 x1 x2 x3 _ _ _ _ _ _
    (readAt_ld arg9 harg9 xs0) (readAt_ld arg10 harg10 xs1) (readAt_ld arg11 harg11 xs2)]

/-- The row errors after the point. -/
theorem outC_6 : out0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10 = err (plain x0 x1 x2 x3 xs0 xs1 xs2) := by
  unfold out0_C_6
  rw [View.read_writes_junk_eq_canon, rawC_6, via_eq arg1 harg1 arg2 harg2 arg3 harg3 arg4 harg4 arg12 arg13 arg14 arg15 arg16 arg17 arg18 x0 x1 x2 x3 _ _ _ _ _ _
    (readAt_ld arg9 harg9 xs0) (readAt_ld arg10 harg10 xs1) (readAt_ld arg11 harg11 xs2)]
  exact View.canon_unit_zero zz2 _ _

/-- The accumulator after the point. -/
theorem outC_10 : sout0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10 = accOf (plain x0 x1 x2 x3 xs0 xs1 xs2) xs10 := by
  unfold sout0_C_10
  rw [View.read_writes_junk_eq_canon, rawC_10, via_eq arg1 harg1 arg2 harg2 arg3 harg3 arg4 harg4 arg12 arg13 arg14 arg15 arg16 arg17 arg18 x0 x1 x2 x3 _ _ _ _ _ _
    (readAt_ld arg9 harg9 xs0) (readAt_ld arg10 harg10 xs1) (readAt_ld arg11 harg11 xs2)]
  refine (View.canon_cons_unit_zero zz2 _ _ _).trans (congrArg _ ?_)
  rw [View.readAt_eq_ld, harg19.read_unread]
  exact View.ld_unit_zero zz2 _ _

/-- The total after the point. -/
theorem outC_7 : out0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs1 xs2 xs10 = totOf (accOf (plain x0 x1 x2 x3 xs0 xs1 xs2) xs10) := by
  unfold out0_C_7
  rw [View.read_writes_junk_eq_canon, rawC_7, via_eq arg1 harg1 arg2 harg2 arg3 harg3 arg4 harg4 arg12 arg13 arg14 arg15 arg16 arg17 arg18 x0 x1 x2 x3 _ _ _ _ _ _
    (readAt_ld arg9 harg9 xs0) (readAt_ld arg10 harg10 xs1) (readAt_ld arg11 harg11 xs2)]
  refine (View.canon_unit_zero zz2 _ _).trans (congrArg _ ?_)
  refine (View.readCov_unit_zero _ zz2 _ _).trans (congrArg _ ?_)
  rw [View.readAt_eq_ld, harg19.read_unread]
  exact View.ld_unit_zero zz2 _ _

end Cert.KernelIdeal.Block
-- ==== Proof.Residual.lean ====
/- The residual that a grid point computes, entry by entry, over the extended reals. -/
module

public import proofs.«01_k».proof.Proof.Readers
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic

/-- A family of stored rectangles that are blocks of one array `G` and reach every index make `G`. -/
theorem canon_pieces {s : Shape} {e : EltTy} {N : ℕ} (P : (n : ℕ) → n < N → View.Piece (Elt Ideal) s e)
    (G : s.Idx → Elt Ideal e) (hG : ∀ n hn x, (P n hn).2 x = G ((P n hn).1.emb x))
    (hc : ∀ y, ∃ n, ∃ hn : n < N, ∃ x, (P n hn).1.emb x = y) : View.canon (pieces P N (Nat.le_refl N)) = G := by
  funext y
  obtain ⟨n, hn, x, hx⟩ := hc y
  refine View.canon_apply_of_pieces G _ ?_ y ⟨P n hn, (mem_pieces P _ N _).2 ⟨n, hn, rfl⟩, ?_⟩
  · intro p hp x
    obtain ⟨k, hk, rfl⟩ := (mem_pieces P _ N _).1 hp
    exact hG k hk x
  · rw [← hx, ← Rect.map_emb_univ]
    exact Finset.mem_map_of_mem _ (Finset.mem_univ x)

/-- The array index of a block's entry, on two axes. -/
theorem emb2 {A B n m o0 o1 : ℕ} (inb) (a : Fin n) (b : Fin m) (i : Fin A) (j : Fin B) (hi : i.val = o0 + a.val) (hj : j.val = o1 + b.val) :
    (Rect.unit (s := ⟨2, ![A, B]⟩) ![o0, o1] ![n, m] inb).emb (ix2 a b) = ix2 i j := by
  funext k
  apply Fin.ext
  match k with
  | ⟨0, _⟩ => show o0 + 1 * a.val = i.val; omega
  | ⟨1, _⟩ => show o1 + 1 * b.val = j.val; omega

/-- The array index of a block's entry, on three axes. -/
theorem emb3 {A B C n m l o0 o1 o2 : ℕ} (inb) (a : Fin n) (b : Fin m) (c : Fin l) (i : Fin A) (j : Fin B) (k : Fin C)
    (hi : i.val = o0 + a.val) (hj : j.val = o1 + b.val) (hk : k.val = o2 + c.val) :
    (Rect.unit (s := ⟨3, ![A, B, C]⟩) ![o0, o1, o2] ![n, m, l] inb).emb (ix3 a b c) = ix3 i j k := by
  funext q
  apply Fin.ext
  match q with
  | ⟨0, _⟩ => show o0 + 1 * a.val = i.val; omega
  | ⟨1, _⟩ => show o1 + 1 * b.val = j.val; omega
  | ⟨2, _⟩ => show o2 + 1 * c.val = k.val; omega

/-- Dropping a leading axis of length 1. -/
theorem cast32 {α : Type} {B C : ℕ} (v : (⟨3, ![1, B, C]⟩ : Shape).Idx → α) (h) (g : Fin B) (j : Fin C) :
    shapeCast ⟨2, ![B, C]⟩ v h (ix2 g j) = v (ix3 0 g j) := by
  refine shapeCast_apply _ _ _ _ ?_
  first | rw [Shape.rowMajor_val_three, Shape.rowMajor_val_two] | rw [Shape.rowMajor_val_two, Shape.rowMajor_val_three]
  simp

/-- Adding a leading axis of length 1. -/
theorem cast23 {α : Type} {B C : ℕ} (v : (⟨2, ![B, C]⟩ : Shape).Idx → α) (h) (a : Fin 1) (g : Fin B) (j : Fin C) :
    shapeCast ⟨3, ![1, B, C]⟩ v h (ix3 a g j) = v (ix2 g j) := by
  refine shapeCast_apply _ _ _ _ ?_
  first | rw [Shape.rowMajor_val_three, Shape.rowMajor_val_two] | rw [Shape.rowMajor_val_two, Shape.rowMajor_val_three]
  have : a.val = 0 := by omega
  simp [this]

/-- A loaded rectangle's entry, on two axes. -/
theorem ld2 {e : EltTy} {A B n m o0 o1 : ℕ} (X : Vec Ideal ⟨2, ![A, B]⟩ e) (inb) (a : Fin n) (b : Fin m) (i : Fin A) (j : Fin B)
    (hi : i.val = o0 + a.val) (hj : j.val = o1 + b.val) :
    View.ld (Val := Elt Ideal) X (Rect.unit (s := ⟨2, ![A, B]⟩) ![o0, o1] ![n, m] inb) (ix2 a b) = X (ix2 i j) :=
  congrArg X (emb2 inb a b i j hi hj)

/-- A loaded rectangle's entry, on three axes. -/
theorem ld3 {e : EltTy} {A B C n m l o0 o1 o2 : ℕ} (X : Vec Ideal ⟨3, ![A, B, C]⟩ e) (inb) (a : Fin n) (b : Fin m) (c : Fin l)
    (i : Fin A) (j : Fin B) (k : Fin C) (hi : i.val = o0 + a.val) (hj : j.val = o1 + b.val) (hk : k.val = o2 + c.val) :
    View.ld (Val := Elt Ideal) X (Rect.unit (s := ⟨3, ![A, B, C]⟩) ![o0, o1, o2] ![n, m, l] inb) (ix3 a b c) = X (ix3 i j k) :=
  congrArg X (emb3 inb a b c i j k hi hj hk)

variable (xc : Vec Ideal S2x192x256 .i8) (xw : Vec Ideal S256x1536 .bf16) (xb : Vec Ideal S2x8x256 .bf16) (xs : Vec Ideal S24x256 .f32)
  (s0 s1 s2 : Vec Ideal S1536x1536 .bf16)

/-- A code as a 32-bit word. -/
def wordAt : Vec Ideal S2x192x256 .i32 := fun y => (xc y).setWidth 32
/-- The lookup index of a code: its low seven bits. -/
def ciAt : Vec Ideal S2x192x256 .i32 := fun y => IntOp.andi (wordAt xc y) 127#32
/-- The shift word of a code: 16 below 128, else 0. -/
def csAt : Vec Ideal S2x192x256 .i32 := fun y => Scalar.select (IntOp.cmpi .slt (wordAt xc y) 128#32) 16#32 0#32

/-- A code word at an entry. -/
theorem code_apply (m : ℕ) (hm : m < 2) (g : Fin 192) (j : Fin 256) :
    code (plain xc xw xb xs s0 s1 s2) m hm (ix2 g j) = wordAt xc (ix3 ⟨m, hm⟩ g j) := by
  unfold code
  rw [ValueIdx.extui_apply, cast32]
  exact congrArg (BitVec.setWidth 32) (ld3 xc _ 0 g j ⟨m, hm⟩ g j (by simp) (by simp) (by simp))

/-- A lookup index at an entry. -/
theorem ciV_apply (m : ℕ) (hm : m < 2) (a : Fin 1) (g : Fin 192) (j : Fin 256) :
    ciV (plain xc xw xb xs s0 s1 s2) m hm (ix3 a g j) = ciAt xc (ix3 ⟨m, hm⟩ g j) := by
  unfold ciV
  rw [cast23, andi_apply, code_apply]
  rfl

/-- A shift word at an entry. -/
theorem csV_apply (m : ℕ) (hm : m < 2) (a : Fin 1) (g : Fin 192) (j : Fin 256) :
    csV (plain xc xw xb xs s0 s1 s2) m hm (ix3 a g j) = csAt xc (ix3 ⟨m, hm⟩ g j) := by
  unfold csV
  rw [cast23, ValueIdx.select_apply, cmpi_apply, code_apply]
  rfl

/-- The stored lookup indices make one array. -/
theorem canon_ci : View.canon (ciL (plain xc xw xb xs s0 s1 s2)) = ciAt xc := by
  refine canon_pieces _ _ ?_ ?_
  · intro m hm (x : S1x192x256.Idx)
    obtain ⟨a, g, j, rfl⟩ : ∃ a g j, x = ix3 a g j := ⟨x 0, x 1, x 2, eq_ix3 x⟩
    have e : (ciP (plain xc xw xb xs s0 s1 s2) m hm).1.emb (ix3 a g j) = ix3 ⟨m, hm⟩ g j :=
      emb3 (inb3 (by omega) (by omega) (by omega)) a g j ⟨m, hm⟩ g j (by simp) (by simp) (by simp)
    rw [e]
    exact ciV_apply xc xw xb xs s0 s1 s2 m hm a g j
  · intro (y : S2x192x256.Idx)
    obtain ⟨m, g, j, rfl⟩ : ∃ m g j, y = ix3 m g j := ⟨y 0, y 1, y 2, eq_ix3 y⟩
    exact ⟨m, m.isLt, ix3 0 g j, emb3 (inb3 (by omega) (by omega) (by omega)) _ _ _ _ _ _ (by simp) (by simp) (by simp)⟩

/-- The stored shift words make one array. -/
theorem canon_cs : View.canon (csL (plain xc xw xb xs s0 s1 s2)) = csAt xc := by
  refine canon_pieces _ _ ?_ ?_
  · intro m hm (x : S1x192x256.Idx)
    obtain ⟨a, g, j, rfl⟩ : ∃ a g j, x = ix3 a g j := ⟨x 0, x 1, x 2, eq_ix3 x⟩
    have e : (csP (plain xc xw xb xs s0 s1 s2) m hm).1.emb (ix3 a g j) = ix3 ⟨m, hm⟩ g j :=
      emb3 (inb3 (by omega) (by omega) (by omega)) a g j ⟨m, hm⟩ g j (by simp) (by simp) (by simp)
    rw [e]
    exact csV_apply xc xw xb xs s0 s1 s2 m hm a g j
  · intro (y : S2x192x256.Idx)
    obtain ⟨m, g, j, rfl⟩ : ∃ m g j, y = ix3 m g j := ⟨y 0, y 1, y 2, eq_ix3 y⟩
    exact ⟨m, m.isLt, ix3 0 g j, emb3 (inb3 (by omega) (by omega) (by omega)) _ _ _ _ _ _ (by simp) (by simp) (by simp)⟩

/-- The transposed weights. -/
def wtAt : Vec Ideal S1536x256 .f32 := fun y => xw (ix2 (y 1) (y 0))

/-- A chunk of the transposed weights at an entry. -/
theorem wtV_apply (k : ℕ) (hk : k < 6) (a b : Fin 256) :
    wtV (plain xc xw xb xs s0 s1 s2) k hk (ix2 a b) = wtAt xw (ix2 ⟨256 * k + a.val, by omega⟩ b) := by
  unfold wtV
  pointwise
  exact ld2 xw _ b a b ⟨256 * k + a.val, by omega⟩ (by simp) rfl

/-- The chunks make the transposed weights. -/
theorem canon_wt : View.canon (wtL (plain xc xw xb xs s0 s1 s2) 6 (Nat.le_refl _)) = wtAt xw := by
  refine canon_pieces _ _ ?_ ?_
  · intro k hk (x : S256x256.Idx)
    obtain ⟨a, b, rfl⟩ : ∃ a b, x = ix2 a b := ⟨x 0, x 1, eq_ix2 x⟩
    have e : (wtP (plain xc xw xb xs s0 s1 s2) k hk).1.emb (ix2 a b) = ix2 ⟨256 * k + a.val, by omega⟩ b :=
      emb2 (inb2 (by omega) (by omega)) a b ⟨256 * k + a.val, by omega⟩ b rfl (by simp)
    rw [e]
    exact wtV_apply xc xw xb xs s0 s1 s2 k hk a b
  · intro (y : S1536x256.Idx)
    obtain ⟨d, j, rfl⟩ : ∃ d j, y = ix2 d j := ⟨y 0, y 1, eq_ix2 y⟩
    exact ⟨d.val / 256, by omega, ix2 ⟨d.val % 256, by omega⟩ j, emb2 (inb2 (by omega) (by omega)) _ _ _ _ (show d.val = 256 * (d.val / 256) + d.val % 256 by omega) (by simp)⟩

/-! ## The lookup -/

/-- The lookup index after its wrap. -/
def wrapS (i : BitVec 32) : BitVec 32 := Scalar.select (IntOp.cmpi .slt i 0#32) (IntOp.addi i 128#32) i

/-- One entry of a looked up codebook. -/
def lookS (lo hi : FVec Ideal S8x128 .f32) (i s : BitVec 32) (a : Fin 8) : EReal :=
  Scalar.select (IntOp.cmpi .eq s 16#32) (lo (ix2 a ⟨(wrapS i).toNat % 128, Nat.mod_lt _ (by omega)⟩))
    (hi (ix2 a ⟨(wrapS i).toNat % 128, Nat.mod_lt _ (by omega)⟩))

/-- The repeated row at an entry. -/
theorem rowOf_apply (v : Vec Ideal S1x1x128 .i32) (a : Fin 8) (b : Fin 128) : rowOf v (ix2 a b) = v (ix3 0 0 b) := by
  pointwise [rowOf]

/-- The wrapped index at an entry. -/
theorem wrapIdx_apply (i : IVec S8x128 32) (a : Fin 8) (b : Fin 128) : wrapIdx i (ix2 a b) = wrapS (i (ix2 a b)) := by
  pointwise [wrapIdx, wrapS]

/-- A lookup at an entry. -/
theorem look_apply (lo hi : FVec Ideal S8x128 .f32) (i s : IVec S8x128 32) (a : Fin 8) (b : Fin 128) :
    look lo hi i s (ix2 a b) = lookS lo hi (i (ix2 a b)) (s (ix2 a b)) a := by
  unfold look lookS
  rw [ValueIdx.select_apply, cmpi_apply, dynamicGather_apply, dynamicGather_apply, wrapIdx_apply]
  refine congrArg₂ (Scalar.select _) (congrArg _ ?_) (congrArg _ ?_) <;>
  · funext k
    match k with
    | ⟨0, _⟩ => rfl
    | ⟨1, _⟩ => rfl

/-- A residual tile at an entry, from what it loads. -/
theorem tile_apply (lo0 hi0 lo1 hi1 : FVec Ideal S8x128 .f32) (i0 t0 i1 t1 : Vec Ideal S1x1x128 .i32) (g : Vec Ideal S1x128 .f32)
    (w : Vec Ideal S8x128 .f32) (a : Fin 8) (b : Fin 128) :
    tile lo0 hi0 lo1 hi1 i0 t0 i1 t1 g w (ix2 a b) =
      (w (ix2 a b) : EReal) - (lookS lo0 hi0 (i0 (ix3 0 0 b)) (t0 (ix3 0 0 b)) a + lookS lo1 hi1 (i1 (ix3 0 0 b)) (t1 (ix3 0 0 b)) a) *
        (g (ix2 0 b) : EReal) := by
  unfold tile
  pointwise
  rw [look_apply, look_apply, rowOf_apply, rowOf_apply, rowOf_apply, rowOf_apply]

/-- The lookup index of a code is the code modulo 128. -/
theorem wrap_code : ∀ c : Fin 256, (wrapS (IntOp.andi ((BitVec.ofFin c : BitVec 8).setWidth 32) 127#32)).toNat % 128 = c.val % 128 := by
  decide +kernel

/-- The shift word is 16 exactly for a code below 128. -/
theorem half_code : ∀ c : Fin 256, IntOp.cmpi .eq (Scalar.select (IntOp.cmpi .slt ((BitVec.ofFin c : BitVec 8).setWidth 32) 128#32) 16#32 (0#32 : BitVec 32)) 16#32
    = BitVec.ofBool (decide (c.val < 128)) := by
  decide +kernel

/-- Codebook `m`'s entry for a code. -/
def entry (m : Fin 2) (a : Fin 8) (c : BitVec 8) : EReal := xb (ix3 m a ⟨c.toNat, c.isLt⟩)

/-- A table at an entry. -/
theorem cbk_apply (m : ℕ) (hm : m < 2) (a : Fin 8) (b : Fin 256) :
    cbk (plain xc xw xb xs s0 s1 s2) m hm (ix2 a b) = (xb (ix3 ⟨m, hm⟩ a b) : EReal) := by
  unfold cbk
  rw [extf_apply, cast32]
  exact ld3 xb _ 0 a b ⟨m, hm⟩ a b (by simp) (by simp) (by simp)

/-- The low half of a table at an entry. -/
theorem lo_apply (m : ℕ) (hm : m < 2) (a : Fin 8) (b : Fin 128) :
    lo (plain xc xw xb xs s0 s1 s2) m hm (ix2 a b) = (xb (ix3 ⟨m, hm⟩ a ⟨b.val, by omega⟩) : EReal) := by
  rw [← cbk_apply xc xw xb xs s0 s1 s2]
  unfold lo
  generalize cbk (plain xc xw xb xs s0 s1 s2) m hm = v
  pointwise

/-- The high half of a table at an entry. -/
theorem hi_apply (m : ℕ) (hm : m < 2) (a : Fin 8) (b : Fin 128) :
    hi (plain xc xw xb xs s0 s1 s2) m hm (ix2 a b) = (xb (ix3 ⟨m, hm⟩ a ⟨128 + b.val, by omega⟩) : EReal) := by
  rw [← cbk_apply xc xw xb xs s0 s1 s2]
  unfold hi
  generalize cbk (plain xc xw xb xs s0 s1 s2) m hm = v
  pointwise

/-- The lookup by index and shift word gives the codebook's entry for the code. -/
theorem look_code (m : ℕ) (hm : m < 2) (a : Fin 8) (y : S2x192x256.Idx) :
    lookS (lo (plain xc xw xb xs s0 s1 s2) m hm) (hi (plain xc xw xb xs s0 s1 s2) m hm) (ciAt xc y) (csAt xc y) a
      = entry xb ⟨m, hm⟩ a (xc y) := by
  unfold lookS ciAt csAt wordAt entry
  generalize (xc y : BitVec 8) = c
  obtain ⟨c⟩ := c
  rw [half_code c]
  rw [lo_apply, hi_apply]
  simp only [wrap_code c]
  by_cases h : c.val < 128
  · simp only [h, decide_true]
    refine congrArg xb (congrArg (ix3 _ _) (Fin.ext ?_))
    show c.val % 128 = c.val
    omega
  · simp only [h, decide_false]
    refine congrArg xb (congrArg (ix3 _ _) (Fin.ext ?_))
    show 128 + c.val % 128 = c.val
    omega

/-! ## The residual -/

/-- The residual's entry: the transposed weight minus the scaled sum of both codebooks' entries. -/
def resE (d : Fin 1536) (j : Fin 256) : EReal :=
  (xw (ix2 j d) : EReal) -
    (entry xb 0 ⟨d.val % 8, Nat.mod_lt _ (by omega)⟩ (xc (ix3 0 ⟨d.val / 8, by omega⟩ j)) +
      entry xb 1 ⟨d.val % 8, Nat.mod_lt _ (by omega)⟩ (xc (ix3 1 ⟨d.val / 8, by omega⟩ j))) *
      (xs (ix2 ⟨d.val / 64, by omega⟩ j) : EReal)
/-- The residual as an array. -/
def resAt : Vec Ideal S1536x256 .f32 := fun y => resE xc xw xb xs (y 0) (y 1)

/-- A load of the lookup indices. -/
theorem plain_ci (L) (r) : (plain xc xw xb xs s0 s1 s2).ci L r = View.ld (View.canon L) r := rfl
/-- A load of the shift words. -/
theorem plain_cs (L) (r) : (plain xc xw xb xs s0 s1 s2).cs L r = View.ld (View.canon L) r := rfl
/-- A load of the transposed weights. -/
theorem plain_wt (L) (r) : (plain xc xw xb xs s0 s1 s2).wt L r = View.ld (View.canon L) r := rfl
/-- A load of the scales. -/
theorem plain_gs (r) : (plain xc xw xb xs s0 s1 s2).gs r = View.ld xs r := rfl

/-- Tile `n` at an entry is the residual there. -/
theorem rfV_apply (n : ℕ) (hn : n < 384) (a : Fin 8) (b : Fin 128) :
    rfV (plain xc xw xb xs s0 s1 s2) n hn (ix2 a b) =
      resAt xc xw xb xs (ix2 ⟨8 * (n / 2) + a.val, by omega⟩ ⟨128 * (n % 2) + b.val, by omega⟩) := by
  have hci (m : ℕ) (hm : m < 2) (inb) : (plain xc xw xb xs s0 s1 s2).ci (ciL (plain xc xw xb xs s0 s1 s2))
      (Rect.unit (s := S2x192x256) ![m, n / 2, 128 * (n % 2)] S1x1x128.size inb) (ix3 0 0 b) =
        ciAt xc (ix3 ⟨m, hm⟩ ⟨n / 2, by omega⟩ ⟨128 * (n % 2) + b.val, by omega⟩) := by
    rw [plain_ci, canon_ci]
    exact ld3 (ciAt xc) inb 0 0 b _ _ _ (by simp) (by simp) (by simp)
  have hcs (m : ℕ) (hm : m < 2) (inb) : (plain xc xw xb xs s0 s1 s2).cs (csL (plain xc xw xb xs s0 s1 s2))
      (Rect.unit (s := S2x192x256) ![m, n / 2, 128 * (n % 2)] S1x1x128.size inb) (ix3 0 0 b) =
        csAt xc (ix3 ⟨m, hm⟩ ⟨n / 2, by omega⟩ ⟨128 * (n % 2) + b.val, by omega⟩) := by
    rw [plain_cs, canon_cs]
    exact ld3 (csAt xc) inb 0 0 b _ _ _ (by simp) (by simp) (by simp)
  have hgs (inb) : (plain xc xw xb xs s0 s1 s2).gs (Rect.unit (s := S24x256) ![n / 2 / 8, 128 * (n % 2)] S1x128.size inb) (ix2 0 b) =
      xs (ix2 ⟨n / 2 / 8, by omega⟩ ⟨128 * (n % 2) + b.val, by omega⟩) := by
    rw [plain_gs]
    exact ld2 xs inb 0 b _ _ (by simp) (by simp)
  have hwt (inb) : (plain xc xw xb xs s0 s1 s2).wt (wtL (plain xc xw xb xs s0 s1 s2) 6 (Nat.le_refl _))
      (Rect.unit (s := S1536x256) ![8 * (n / 2), 128 * (n % 2)] S8x128.size inb) (ix2 a b) =
        wtAt xw (ix2 ⟨8 * (n / 2) + a.val, by omega⟩ ⟨128 * (n % 2) + b.val, by omega⟩) := by
    rw [plain_wt, canon_wt]
    exact ld2 (wtAt xw) inb a b _ _ (by simp) (by simp)
  unfold rfV
  rw [tile_apply, hci 0 (by omega), hcs 0 (by omega), hci 1 (by omega), hcs 1 (by omega), hgs, hwt, look_code, look_code]
  have e8 : (8 * (n / 2) + a.val) % 8 = a.val := by omega
  have e1 : (8 * (n / 2) + a.val) / 8 = n / 2 := by omega
  have e2 : (8 * (n / 2) + a.val) / 64 = n / 2 / 8 := by omega
  have f8 (p) : (⟨(8 * (n / 2) + a.val) % 8, p⟩ : Fin 8) = a := Fin.ext e8
  have f1 (p) (q) : (⟨(8 * (n / 2) + a.val) / 8, p⟩ : Fin 192) = ⟨n / 2, q⟩ := Fin.ext e1
  have f2 (p) (q) : (⟨(8 * (n / 2) + a.val) / 64, p⟩ : Fin 24) = ⟨n / 2 / 8, q⟩ := Fin.ext e2
  show _ = resE xc xw xb xs ⟨8 * (n / 2) + a.val, _⟩ ⟨128 * (n % 2) + b.val, _⟩
  unfold resE
  rw [f8, f1 _ (by omega), f2 _ (by omega)]
  rfl

/-- The tiles make the residual. -/
theorem canon_rf : View.canon (rfL (plain xc xw xb xs s0 s1 s2) 384 (Nat.le_refl _)) = resAt xc xw xb xs := by
  refine canon_pieces _ _ ?_ ?_
  · intro n hn (x : S8x128.Idx)
    obtain ⟨a, b, rfl⟩ : ∃ a b, x = ix2 a b := ⟨x 0, x 1, eq_ix2 x⟩
    have e : (rfP (plain xc xw xb xs s0 s1 s2) n hn).1.emb (ix2 a b) =
        ix2 ⟨8 * (n / 2) + a.val, by omega⟩ ⟨128 * (n % 2) + b.val, by omega⟩ :=
      emb2 (inb2 (by omega) (by omega)) a b _ _ rfl rfl
    rw [e]
    exact rfV_apply xc xw xb xs s0 s1 s2 n hn a b
  · intro (y : S1536x256.Idx)
    obtain ⟨d, j, rfl⟩ : ∃ d j, y = ix2 d j := ⟨y 0, y 1, eq_ix2 y⟩
    refine ⟨2 * (d.val / 8) + j.val / 128, by omega, ix2 ⟨d.val % 8, by omega⟩ ⟨j.val % 128, by omega⟩, emb2 (inb2 (by omega) (by omega)) _ _ _ _ ?_ ?_⟩
    · show d.val = 8 * ((2 * (d.val / 8) + j.val / 128) / 2) + d.val % 8
      omega
    · show j.val = 128 * ((2 * (d.val / 8) + j.val / 128) % 2) + j.val % 128
      omega

end Cert.KernelIdeal.Block
-- ==== Proof.Products.lean ====
/- The parts of the residual and of `h`, the products and the errors that a grid point computes, entry by entry over the
extended reals. On finite numbers the second and third parts are zero, so one product of the six is left. -/
module

public import proofs.«01_k».proof.Proof.Residual

@[expose] public section

set_option maxRecDepth 16384

noncomputable section

namespace Cert.KernelIdeal.Block

open Cert.KernelIdeal Cert.KernelIdeal.Gen Idealize.ShloMosaic

/-- An extended real that is a real number. -/
def IsReal (x : EReal) : Prop := ∃ r : ℝ, x = r

/-- Differences of real numbers are real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩
/-- Sums of real numbers are real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩
/-- Products of real numbers are real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩
/-- A real number minus itself is zero, which is false at the infinities. -/
theorem IsReal.sub_self {x : EReal} (hx : IsReal x) : x - x = 0 := by
  obtain ⟨a, rfl⟩ := hx
  exact EReal.sub_self (EReal.coe_ne_top a) (EReal.coe_ne_bot a)

/-! ## The parts of a block -/

/-- The first part is the value: rounding is the identity on the extended reals. -/
theorem part0_apply (v : FVec Ideal S256x256 .f32) (y : S256x256.Idx) : part0 v y = (v y : EReal) := by
  pointwise [part0]

/-- Of a real value nothing is left after the first part. -/
theorem rest1_apply (v : FVec Ideal S256x256 .f32) (y : S256x256.Idx) (h : IsReal (v y)) : rest1 v y = (0 : EReal) := by
  pointwise [rest1, part0]
  exact h.sub_self

/-- The second part of a real value is zero. -/
theorem part1_apply (v : FVec Ideal S256x256 .f32) (y : S256x256.Idx) (h : IsReal (v y)) : part1 v y = (0 : EReal) := by
  unfold part1
  rw [truncf_apply]
  exact rest1_apply v y h

/-- The third part of a real value is zero. -/
theorem part2_apply (v : FVec Ideal S256x256 .f32) (y : S256x256.Idx) (h : IsReal (v y)) : part2 v y = (0 : EReal) := by
  unfold part2
  rw [truncf_apply, subf_apply, extf_apply, rest1_apply v y h, part1_apply v y h]
  exact IsReal.sub_self ⟨0, rfl⟩

variable (xc : Vec Ideal S2x192x256 .i8) (xw : Vec Ideal S256x1536 .bf16) (xb : Vec Ideal S2x8x256 .bf16) (xs : Vec Ideal S24x256 .f32)
  (s0 s1 s2 : Vec Ideal S1536x1536 .bf16)

/-- A load of the residual. -/
theorem plain_rf (L) (r) : (plain xc xw xb xs s0 s1 s2).rf L r = View.ld (View.canon L) r := rfl
/-- A load of the residual's first part. -/
theorem plain_r0 (L) (r) : (plain xc xw xb xs s0 s1 s2).r0 L r = View.ld (View.canon L) r := rfl
/-- A load of the residual's second part. -/
theorem plain_r1 (L) (r) : (plain xc xw xb xs s0 s1 s2).r1 L r = View.ld (View.canon L) r := rfl
/-- A load of the residual's third part. -/
theorem plain_r2 (L) (r) : (plain xc xw xb xs s0 s1 s2).r2 L r = View.ld (View.canon L) r := rfl
/-- A load of the first part of `h`. -/
theorem plain_h0 (r) : (plain xc xw xb xs s0 s1 s2).h0 r = View.ld s0 r := rfl
/-- A load of the second part of `h`. -/
theorem plain_h1 (r) : (plain xc xw xb xs s0 s1 s2).h1 r = View.ld s1 r := rfl
/-- A load of the third part of `h`. -/
theorem plain_h2 (r) : (plain xc xw xb xs s0 s1 s2).h2 r = View.ld s2 r := rfl

/-- A chunk of the residual at an entry. -/
theorem rfC_apply (k : ℕ) (hk : k < 6) (a b : Fin 256) :
    rfC (plain xc xw xb xs s0 s1 s2) k hk (ix2 a b) = resE xc xw xb xs ⟨256 * k + a.val, by omega⟩ b := by
  unfold rfC
  rw [plain_rf, canon_rf]
  exact ld2 (resAt xc xw xb xs) (inb2 (by omega) (by omega)) a b ⟨256 * k + a.val, by omega⟩ b rfl (by simp)

/-- The parts of every chunk make one array, when the part of a chunk is known entry by entry. -/
theorem canon_r (part : FVec Ideal S256x256 .f32 → FVec Ideal S256x256 .bf16) (G : Vec Ideal S1536x256 .bf16)
    (hp : ∀ k hk a b, part (rfC (plain xc xw xb xs s0 s1 s2) k hk) (ix2 a b) = G (ix2 ⟨256 * k + a.val, by omega⟩ b)) :
    View.canon (rL (plain xc xw xb xs s0 s1 s2) part 6 (Nat.le_refl _)) = G := by
  refine canon_pieces _ _ ?_ ?_
  · intro k hk (x : S256x256.Idx)
    obtain ⟨a, b, rfl⟩ : ∃ a b, x = ix2 a b := ⟨x 0, x 1, eq_ix2 x⟩
    have e : (rP (plain xc xw xb xs s0 s1 s2) part k hk).1.emb (ix2 a b) = ix2 ⟨256 * k + a.val, by omega⟩ b :=
      emb2 (inb2 (by omega) (by omega)) a b ⟨256 * k + a.val, by omega⟩ b rfl (by simp)
    rw [e]
    refine Eq.trans ?_ (hp k hk a b)
    show shapeCast S256x256 (part (rfC (plain xc xw xb xs s0 s1 s2) k hk)) shapeCasts_S256x256_S256x256 (ix2 a b) = _
    generalize part (rfC (plain xc xw xb xs s0 s1 s2) k hk) = v
    pointwise
  · intro (y : S1536x256.Idx)
    obtain ⟨d, j, rfl⟩ : ∃ d j, y = ix2 d j := ⟨y 0, y 1, eq_ix2 y⟩
    exact ⟨d.val / 256, by omega, ix2 ⟨d.val % 256, by omega⟩ j, emb2 (inb2 (by omega) (by omega)) _ _ _ _ (show d.val = 256 * (d.val / 256) + d.val % 256 by omega) (by simp)⟩

/-- The first part is the residual. -/
theorem r0_apply (k : Fin 1536) (j : Fin 256) : r0 (plain xc xw xb xs s0 s1 s2) (ix2 k j) = resE xc xw xb xs k j := by
  unfold r0
  rw [plain_r0, canon_r xc xw xb xs s0 s1 s2 part0 (fun y => resE xc xw xb xs (y 0) (y 1))
    fun k hk a b => (part0_apply _ _).trans (rfC_apply xc xw xb xs s0 s1 s2 k hk a b)]
  exact ld2 _ (inb2 (by omega) (by omega)) k j k j (by simp) (by simp)

variable (hr : ∀ d j, IsReal (resE xc xw xb xs d j))
include hr

/-- A chunk's entries are real. -/
theorem rfC_real (k : ℕ) (hk : k < 6) (a b : Fin 256) : IsReal (rfC (plain xc xw xb xs s0 s1 s2) k hk (ix2 a b)) := by
  rw [rfC_apply]
  exact hr _ _

/-- The second part is zero. -/
theorem r1_apply (k : Fin 1536) (j : Fin 256) : r1 (plain xc xw xb xs s0 s1 s2) (ix2 k j) = (0 : EReal) := by
  unfold r1
  rw [plain_r1, canon_r xc xw xb xs s0 s1 s2 part1 (fun _ => (0 : EReal))
    fun k hk a b => part1_apply _ _ (rfC_real xc xw xb xs s0 s1 s2 hr k hk a b)]

/-- The third part is zero. -/
theorem r2_apply (k : Fin 1536) (j : Fin 256) : r2 (plain xc xw xb xs s0 s1 s2) (ix2 k j) = (0 : EReal) := by
  unfold r2
  rw [plain_r2, canon_r xc xw xb xs s0 s1 s2 part2 (fun _ => (0 : EReal))
    fun k hk a b => part2_apply _ _ (rfC_real xc xw xb xs s0 s1 s2 hr k hk a b)]

omit hr

/-- A product at an entry. -/
theorem mm_apply (a : FVec Ideal S256x1536 .bf16) (b : FVec Ideal S1536x256 .bf16) (i j : Fin 256) :
    mm a b (ix2 i j) = ∑ k : Fin 1536, (a (ix2 i k) : EReal) * (b (ix2 k j) : EReal) := by
  pointwise [mm]

/-- A chunk's rows at an entry. -/
theorem rows_apply (s : Vec Ideal S1536x1536 .bf16) (n : ℕ) (hn : n < 6) (a : Fin 256) (k : Fin 1536) :
    rows (fun r => View.ld s r) n hn (ix2 a k) = s (ix2 ⟨256 * n + a.val, by omega⟩ k) :=
  ld2 s (inb2 (by omega) (by omega)) a k ⟨256 * n + a.val, by omega⟩ k rfl (by simp)

/-- `h` times the residual. -/
def yE (d : Fin 1536) (j : Fin 256) : EReal := ∑ k : Fin 1536, (s0 (ix2 d k) : EReal) * resE xc xw xb xs k j

include hr

/-- The products of the zero parts vanish, so the chunk of `y` is one product. -/
theorem yv_apply (h1 : s1 = fun _ => (0 : EReal)) (h2 : s2 = fun _ => (0 : EReal)) (n : ℕ) (hn : n < 6) (i j : Fin 256) :
    yv (plain xc xw xb xs s0 s1 s2) n hn (ix2 i j) = yE xc xw xb xs s0 ⟨256 * n + i.val, by omega⟩ j := by
  have e0 : (plain xc xw xb xs s0 s1 s2).h0 = fun r => View.ld s0 r := rfl
  have e1 : (plain xc xw xb xs s0 s1 s2).h1 = fun r => View.ld s1 r := rfl
  have e2 : (plain xc xw xb xs s0 s1 s2).h2 = fun r => View.ld s2 r := rfl
  unfold yv
  rw [e0, e1, e2]
  simp only [addf_apply, mm_apply, rows_apply, r0_apply, r1_apply xc xw xb xs s0 s1 s2 hr, r2_apply xc xw xb xs s0 s1 s2 hr]
  subst h1 h2
  have ad (x y : EReal) : FloatOps.addf (F := Ideal) (φ := .f32) x y = x + y := rfl
  simp only [mul_zero, zero_mul, Finset.sum_const_zero, ad, zero_add, add_zero]
  rfl

end Cert.KernelIdeal.Block
-- ==== Proof.Errors.lean ====
/- The group errors, the row errors, the running total and the parts of the transposed `h`, entry by entry over the extended reals. -/
module

public import proofs.«01_k».proof.Proof.Products

@[expose] public section

set_option maxRecDepth 16384

noncomputable section

namespace Cert.KernelIdeal.Block

open Cert.KernelIdeal Cert.KernelIdeal.Gen Idealize.ShloMosaic

/-- Splitting the rows of a chunk into groups of eight. -/
theorem groups_apply (v : FVec Ideal S256x256 .f32) (q : Fin 32) (s : Fin 8) (j : Fin 256) :
    shapeCast S32x8x256 v shapeCasts_S256x256_S32x8x256 (ix3 q s j) = v (ix2 ⟨8 * q.val + s.val, by omega⟩ j) := by
  refine shapeCast_apply _ _ _ _ ?_
  first | rw [Shape.rowMajor_val_three, Shape.rowMajor_val_two] | rw [Shape.rowMajor_val_two, Shape.rowMajor_val_three]
  show (8 * q.val + s.val) * 256 + j.val = (q.val * 8 + s.val) * 256 + j.val
  omega

/-- The sum over the eight rows of a group. -/
theorem groupSum_apply (v : FVec Ideal S32x8x256 .f32) (q : Fin 32) (j : Fin 256) :
    multiReduction .add [1] S32x256 v 0x00000000#32 reduces_S32x8x256_S32x256 (.inl rfl) rfl (ix2 q j) = ∑ s : Fin 8, (v (ix3 q s j) : EReal) := by
  pointwise

/-- The sum over the 32 groups of a chunk. -/
theorem chunkSum_apply (v : FVec Ideal S32x256 .f32) (a : Fin 1) (j : Fin 256) :
    shapeCast S1x256 (multiReduction .add [0] S256 v 0x00000000#32 reduces_S32x256_S256 (.inl rfl) rfl) shapeCasts_S256_S1x256 (ix2 a j)
      = ∑ q : Fin 32, (v (ix2 q j) : EReal) := by
  pointwise

variable (xc : Vec Ideal S2x192x256 .i8) (xw : Vec Ideal S256x1536 .bf16) (xb : Vec Ideal S2x8x256 .bf16) (xs : Vec Ideal S24x256 .f32)
  (s0 s1 s2 : Vec Ideal S1536x1536 .bf16)

/-- A group's error: the sum over its eight entries of the residual times `h` times the residual. -/
def egE (g : Fin 192) (j : Fin 256) : EReal :=
  ∑ s : Fin 8, resE xc xw xb xs ⟨8 * g.val + s.val, by omega⟩ j * yE xc xw xb xs s0 ⟨8 * g.val + s.val, by omega⟩ j

/-- A row's error. -/
def errE (j : Fin 256) : EReal := ∑ g : Fin 192, egE xc xw xb xs s0 g j

variable (hr : ∀ d j, IsReal (resE xc xw xb xs d j)) (h1 : s1 = fun _ => (0 : EReal)) (h2 : s2 = fun _ => (0 : EReal))
include hr h1 h2

/-- A chunk of the group errors at an entry. -/
theorem eg_apply (n : ℕ) (hn : n < 6) (q : Fin 32) (j : Fin 256) :
    eg (plain xc xw xb xs s0 s1 s2) n hn (ix2 q j) = egE xc xw xb xs s0 ⟨32 * n + q.val, by omega⟩ j := by
  unfold eg
  rw [groupSum_apply]
  refine Finset.sum_congr rfl fun s _ => ?_
  rw [groups_apply, mulf_apply, rfC_apply, yv_apply xc xw xb xs s0 s1 s2 hr h1 h2]
  have e (p) (q') : (⟨256 * n + (8 * q.val + s.val), p⟩ : Fin 1536) = ⟨8 * (32 * n + q.val) + s.val, q'⟩ := Fin.ext
    (show 256 * n + (8 * q.val + s.val) = 8 * (32 * n + q.val) + s.val by omega)
  rw [e]
  rfl

/-- The chunks make the group errors. -/
theorem canon_eg : View.canon (egL (plain xc xw xb xs s0 s1 s2) 6 (Nat.le_refl _)) = fun y => egE xc xw xb xs s0 (y 0) (y 1) := by
  refine canon_pieces _ _ ?_ ?_
  · intro k hk (x : S32x256.Idx)
    obtain ⟨a, b, rfl⟩ : ∃ a b, x = ix2 a b := ⟨x 0, x 1, eq_ix2 x⟩
    have e : (egP (plain xc xw xb xs s0 s1 s2) k hk).1.emb (ix2 a b) = ix2 ⟨32 * k + a.val, by omega⟩ b :=
      emb2 (inb2 (by omega) (by omega)) a b ⟨32 * k + a.val, by omega⟩ b rfl (by simp)
    rw [e]
    exact eg_apply xc xw xb xs s0 s1 s2 hr h1 h2 k hk a b
  · intro (y : S192x256.Idx)
    obtain ⟨d, j, rfl⟩ : ∃ d j, y = ix2 d j := ⟨y 0, y 1, eq_ix2 y⟩
    exact ⟨d.val / 32, by omega, ix2 ⟨d.val % 32, by omega⟩ j, emb2 (inb2 (by omega) (by omega)) _ _ _ _ (show d.val = 32 * (d.val / 32) + d.val % 32 by omega) (by simp)⟩

/-- The row errors after `n` chunks are the sum of those chunks' group errors. -/
theorem er_apply (n : ℕ) (hn : n ≤ 6) (a : Fin 1) (j : Fin 256) :
    er (plain xc xw xb xs s0 s1 s2) n hn (ix2 a j) = ∑ m : Fin n, ∑ q : Fin 32, egE xc xw xb xs s0 ⟨32 * m.val + q.val, by omega⟩ j := by
  induction n with
  | zero =>
    rw [Fin.sum_univ_zero]
    unfold er
    pointwise
  | succ n ih =>
    unfold er
    rw [addf_apply, ih, chunkSum_apply]
    refine Eq.trans ?_ (Fin.sum_univ_castSucc _).symm
    refine congrArg₂ (fun x y : EReal => x + y) rfl (Finset.sum_congr rfl fun q _ => ?_)
    exact eg_apply xc xw xb xs s0 s1 s2 hr h1 h2 n hn q j

/-- The row errors of the grid point are the sums of all its groups' errors. -/
theorem err_apply (a : Fin 1) (j : Fin 256) : err (plain xc xw xb xs s0 s1 s2) (ix2 a j) = errE xc xw xb xs s0 j := by
  unfold err
  rw [er_apply xc xw xb xs s0 s1 s2 hr h1 h2]
  unfold errE
  have hG (g : Fin 192) : egE xc xw xb xs s0 g j =
      (fun m q : ℕ => if h : 32 * m + q < 192 then egE xc xw xb xs s0 ⟨32 * m + q, h⟩ j else 0) (g.val / 32) (g.val % 32) := by
    have e : 32 * (g.val / 32) + g.val % 32 = g.val := by omega
    show _ = dite _ _ _
    simp only [e]
    rw [dif_pos g.isLt]
  rw [Finset.sum_congr rfl fun g _ => hG g]
  refine Eq.trans ?_ (Fin.sum_univ_mul_divmod 6 32
    (fun m q : ℕ => if h : 32 * m + q < 192 then egE xc xw xb xs s0 ⟨32 * m + q, h⟩ j else 0)).symm
  refine Finset.sum_congr rfl fun m _ => Finset.sum_congr rfl fun q _ => ?_
  rw [dif_pos]

/-- The accumulator gains the row errors. -/
theorem accOf_apply (acc : Vec Ideal S1x256 .f32) (a : Fin 1) (j : Fin 256) :
    accOf (plain xc xw xb xs s0 s1 s2) acc (ix2 a j) = (acc (ix2 a j) : EReal) + errE xc xw xb xs s0 j := by
  rw [← err_apply xc xw xb xs s0 s1 s2 hr h1 h2 a j]
  unfold accOf
  generalize err (plain xc xw xb xs s0 s1 s2) = v
  pointwise

omit hr h1 h2

/-- The cleared accumulator is zero. -/
theorem acc0_apply (a : Fin 1) (j : Fin 256) : acc0 (F := Ideal) (ix2 a j) = (0 : EReal) := by
  pointwise [acc0]

/-- The total is the sum of the accumulator's lanes. -/
theorem totOf_apply (acc : Vec Ideal S1x256 .f32) (y : S1x1.Idx) : totOf acc y = ∑ j : Fin 256, (acc (ix2 0 j) : EReal) := by
  obtain ⟨a, b, rfl⟩ : ∃ a b, y = ix2 a b := ⟨y 0, y 1, eq_ix2 y⟩
  pointwise [totOf]

/-! ## The stored parts of the transposed `h` -/

variable (xh : Vec Ideal S1536x1536 .f32)

/-- The tiles of a part of the transposed `h` make one array, when the part of a tile is known entry by entry. -/
theorem canon_h (part : FVec Ideal S256x256 .f32 → FVec Ideal S256x256 .bf16) (G : Vec Ideal S1536x1536 .bf16)
    (hp : ∀ (v : FVec Ideal S256x256 .f32) (n k : Fin 6) (a b : Fin 256),
      v (ix2 a b) = xh (ix2 ⟨256 * k.val + b.val, by omega⟩ ⟨256 * n.val + a.val, by omega⟩) →
      part v (ix2 a b) = G (ix2 ⟨256 * n.val + a.val, by omega⟩ ⟨256 * k.val + b.val, by omega⟩)) :
    View.canon (hL (fun r => View.ld xh r) part 36 (Nat.le_refl _)) = G := by
  refine canon_pieces _ _ ?_ ?_
  · intro i hi (x : S256x256.Idx)
    obtain ⟨a, b, rfl⟩ : ∃ a b, x = ix2 a b := ⟨x 0, x 1, eq_ix2 x⟩
    have e : (hP (fun r => View.ld xh r) part i hi).1.emb (ix2 a b) =
        ix2 ⟨256 * (i / 6) + a.val, by omega⟩ ⟨256 * (i % 6) + b.val, by omega⟩ :=
      emb2 (inb2 (by omega) (by omega)) a b ⟨256 * (i / 6) + a.val, by omega⟩ ⟨256 * (i % 6) + b.val, by omega⟩ rfl rfl
    rw [e]
    refine Eq.trans ?_ (hp (transpose S256x256 [1, 0] (View.ld xh (Rect.unit ![256 * (i % 6), 256 * (i / 6)] S256x256.size
      (inb2 (by omega) (by omega)))) transposes_S256x256_p1_0_S256x256) ⟨i / 6, by omega⟩ ⟨i % 6, by omega⟩ a b ?_)
    · show hV (fun r => View.ld xh r) part i hi (ix2 a b) = _
      unfold hV
      generalize transpose S256x256 _ _ _ = v
      generalize part v = w
      pointwise
    · rw [← ld2 xh (inb2 (by omega) (by omega)) b a ⟨256 * (i % 6) + b.val, by omega⟩ ⟨256 * (i / 6) + a.val, by omega⟩ rfl rfl]
      generalize View.ld xh _ = v
      pointwise
  · intro (y : S1536x1536.Idx)
    obtain ⟨d, j, rfl⟩ : ∃ d j, y = ix2 d j := ⟨y 0, y 1, eq_ix2 y⟩
    refine ⟨6 * (d.val / 256) + j.val / 256, by omega, ix2 ⟨d.val % 256, by omega⟩ ⟨j.val % 256, by omega⟩, emb2 (inb2 (by omega) (by omega)) _ _ _ _ ?_ ?_⟩
    · show d.val = 256 * ((6 * (d.val / 256) + j.val / 256) / 6) + d.val % 256
      omega
    · show j.val = 256 * ((6 * (d.val / 256) + j.val / 256) % 6) + j.val % 256
      omega

/-- The stored first parts make the transposed `h`. -/
theorem canon_h0 : View.canon (hL (fun r => View.ld xh r) part0 36 (Nat.le_refl _)) = fun y => (xh (ix2 (y 1) (y 0)) : EReal) :=
  canon_h xh part0 _ fun v _ _ a b h => (part0_apply v (ix2 a b)).trans h

variable (hh : ∀ y, IsReal (xh y))
include hh

/-- The stored second parts are zero. -/
theorem canon_h1 : View.canon (hL (fun r => View.ld xh r) part1 36 (Nat.le_refl _)) = fun _ => (0 : EReal) :=
  canon_h xh part1 _ fun v _ _ a b h => part1_apply v (ix2 a b) (by rw [h]; exact hh _)

/-- The stored third parts are zero. -/
theorem canon_h2 : View.canon (hL (fun r => View.ld xh r) part2 36 (Nat.le_refl _)) = fun _ => (0 : EReal) :=
  canon_h xh part2 _ fun v _ _ a b h => part2_apply v (ix2 a b) (by rw [h]; exact hh _)

end Cert.KernelIdeal.Block
-- ==== Proof.State.lean ====
/- What the outputs and the carried arrays hold after each grid point: the parts of the transposed `h` stay as the first point
stored them, and the accumulator holds the row errors of the points so far. -/
module

public import proofs.«01_k».proof.Proof.CaseA
public import proofs.«01_k».proof.Proof.CaseB
public import proofs.«01_k».proof.Proof.CaseC
public import proofs.«01_k».proof.Proof.Errors
public import proofs.«01_k».proof.Proof.Gen.KernelIdeal.Value

@[expose] public section

set_option maxRecDepth 16384

noncomputable section

namespace Cert.KernelIdeal.State

open Cert.KernelIdeal Cert.KernelIdeal.Gen Cert.KernelIdeal.Block Cert.KernelIdeal.Value Idealize.ShloMosaic

variable (m : (ℓ : Loc nD τ sig) → Buf (Elt Ideal) ℓ) (c : Dev nD)

/-- The codes' block of a grid point. -/
abbrev bc (t : Fin cfg0.N) : Vec Ideal S2x192x256 .i8 := iblk m c 0 t
/-- The weights' block. -/
abbrev bw (t : Fin cfg0.N) : Vec Ideal S256x1536 .bf16 := iblk m c 1 t
/-- The codebooks. -/
abbrev bb (t : Fin cfg0.N) : Vec Ideal S2x8x256 .bf16 := iblk m c 2 t
/-- The scales' block. -/
abbrev bs (t : Fin cfg0.N) : Vec Ideal S24x256 .f32 := iblk m c 3 t
/-- The matrix `h`. -/
abbrev bh (t : Fin cfg0.N) : Vec Ideal S1536x1536 .f32 := iblk m c 4 t

/-- The transposed `h`, from the first point's block. -/
def hT (t : Fin cfg0.N) : Vec Ideal S1536x1536 .bf16 := fun y => (bh m c t (ix2 (y 1) (y 0)) : EReal)

/-- What the outputs and the carried arrays hold. -/
abbrev Held := Vec Ideal S192x256 .f32 × Vec Ideal S1x256 .f32 × Vec Ideal S1x1 .f32 × Vec Ideal S1536x1536 .bf16 ×
  Vec Ideal S1536x1536 .bf16 × Vec Ideal S1536x1536 .bf16 × Vec Ideal S1x256 .f32

/-- The three parts of `h` as stored, the group errors and the row errors of point `t`. -/
structure Ok (h0 : Vec Ideal S1536x1536 .bf16) (t : Fin cfg0.N) (T : Held) : Prop where
  s0 : T.2.2.2.1 = h0
  s1 : T.2.2.2.2.1 = fun _ => (0 : EReal)
  s2 : T.2.2.2.2.2.1 = fun _ => (0 : EReal)
  eg : T.1 = fun y => egE (bc m c t) (bw m c t) (bb m c t) (bs m c t) h0 (y 0) (y 1)
  e : ∀ a j, T.2.1 (ix2 a j) = errE (bc m c t) (bw m c t) (bb m c t) (bs m c t) h0 j

variable (hr : ∀ t d j, IsReal (resE (bc m c t) (bw m c t) (bb m c t) (bs m c t) d j)) (hh : ∀ t y, IsReal (bh m c t y))
include hr

/-- The first point: it stores the parts of `h` and starts the accumulator. -/
theorem stepA (hh : ∀ t y, IsReal (bh m c t y)) (t : Fin cfg0.N) (acc : Held) (h0 : t.val % 35 = 0) (h1 : ¬t.val % 35 = 34) :
    Ok m c (hT m c t) t (stAt0 m c t.val t.isLt acc) ∧
      ∀ a j, (stAt0 m c t.val t.isLt acc).2.2.2.2.2.2 (ix2 a j) = errE (bc m c t) (bw m c t) (bb m c t) (bs m c t) (hT m c t) j := by
  rw [stAt0_A m c t acc h0 h1, outA_5, outA_6, outA_10, outA_h0, outA_h1, outA_h2,
    canon_h0 (bh m c t), canon_h1 (bh m c t) (hh t), canon_h2 (bh m c t) (hh t)]
  refine ⟨⟨rfl, rfl, rfl, ?_, fun a j => ?_⟩, fun a j => ?_⟩
  · exact canon_eg _ _ _ _ _ _ _ (hr t) rfl rfl
  · exact err_apply _ _ _ _ _ _ _ (hr t) rfl rfl a j
  · refine (accOf_apply _ _ _ _ _ _ _ (hr t) rfl rfl _ a j).trans ?_
    rw [acc0_apply, zero_add]
    rfl

/-- A point between: the parts of `h` stay, and the accumulator grows by the point's row errors. -/
theorem stepB (t t' : Fin cfg0.N) (h0 : Vec Ideal S1536x1536 .bf16) (acc : Held) (c0 : ¬t.val % 35 = 0) (c1 : ¬t.val % 35 = 34) (ok : Ok m c h0 t' acc) :
    Ok m c h0 t (stAt0 m c t.val t.isLt acc) ∧
      ∀ a j, (stAt0 m c t.val t.isLt acc).2.2.2.2.2.2 (ix2 a j) =
        (acc.2.2.2.2.2.2 (ix2 a j) : EReal) + errE (bc m c t) (bw m c t) (bb m c t) (bs m c t) h0 j := by
  rw [stAt0_B m c t acc c0 c1, outB_5, outB_6, outB_10]
  obtain ⟨rfl, k1, k2, -, -⟩ := ok
  refine ⟨⟨rfl, k1, k2, ?_, fun a j => ?_⟩, fun a j => ?_⟩
  · exact canon_eg _ _ _ _ _ _ _ (hr t) k1 k2
  · exact err_apply _ _ _ _ _ _ _ (hr t) k1 k2 a j
  · exact accOf_apply _ _ _ _ _ _ _ (hr t) k1 k2 _ a j

/-- The last point: as a point between, and the total is the accumulator's sum. -/
theorem stepC (t t' : Fin cfg0.N) (h0 : Vec Ideal S1536x1536 .bf16) (acc : Held) (c0 : ¬t.val % 35 = 0) (c1 : t.val % 35 = 34) (ok : Ok m c h0 t' acc) :
    Ok m c h0 t (stAt0 m c t.val t.isLt acc) ∧
      (∀ a j, (stAt0 m c t.val t.isLt acc).2.2.2.2.2.2 (ix2 a j) =
        (acc.2.2.2.2.2.2 (ix2 a j) : EReal) + errE (bc m c t) (bw m c t) (bb m c t) (bs m c t) h0 j) ∧
      ∀ y, (stAt0 m c t.val t.isLt acc).2.2.1 y =
        ∑ j : Fin 256, ((acc.2.2.2.2.2.2 (ix2 0 j) : EReal) + errE (bc m c t) (bw m c t) (bb m c t) (bs m c t) h0 j) := by
  rw [stAt0_C m c t acc c0 c1, outC_5, outC_6, outC_7, outC_10]
  obtain ⟨rfl, k1, k2, -, -⟩ := ok
  refine ⟨⟨rfl, k1, k2, ?_, fun a j => ?_⟩, fun a j => ?_, fun y => ?_⟩
  · exact canon_eg _ _ _ _ _ _ _ (hr t) k1 k2
  · exact err_apply _ _ _ _ _ _ _ (hr t) k1 k2 a j
  · exact accOf_apply _ _ _ _ _ _ _ (hr t) k1 k2 _ a j
  · exact (totOf_apply _ _).trans (Finset.sum_congr rfl fun j _ => accOf_apply _ _ _ _ _ _ _ (hr t) k1 k2 _ 0 j)

/-- What is held after point `n`. -/
abbrev held (n : ℕ) (h : 0 + n < cfg0.N) : Held := Pipeline.accAt (fun n h => stAt0 m c n h junk0) (stAt0 m c) 0 n h

/-- The first grid point. -/
abbrev p0 : Fin cfg0.N := ⟨0, lt_of_lt_of_eq (by decide) N_0.symm⟩

/-- A point's row errors. -/
def errP (n : ℕ) (j : Fin 256) : EReal :=
  if h : n < cfg0.N then errE (bc m c ⟨n, h⟩) (bw m c ⟨n, h⟩) (bb m c ⟨n, h⟩) (bs m c ⟨n, h⟩) (hT m c p0) j else 0

include hh

/-- After point `n`: the parts of `h`, the point's errors, and the row errors summed so far. -/
theorem held_ok (n : ℕ) (h : 0 + n < cfg0.N) :
    Ok m c (hT m c p0) ⟨n, lt_of_eq_of_lt (Nat.zero_add n).symm h⟩ (held m c n h) ∧
      ∀ a j, (held m c n h).2.2.2.2.2.2 (ix2 a j) = ∑ i ∈ Finset.range (n + 1), errP m c i j := by
  have hN : cfg0.N = 35 := N_0
  induction n with
  | zero =>
    have s := stepA m c hr hh p0 junk0 (by decide) (by decide)
    refine ⟨s.1, fun a j => (s.2 a j).trans ?_⟩
    rw [Finset.sum_range_one]
    unfold errP
    rw [dif_pos]
  | succ n ih =>
    have h' : 0 + n < cfg0.N := by omega
    have hn : n + 1 < cfg0.N := by omega
    obtain ⟨ok, sm⟩ := ih h'
    have key : Ok m c (hT m c p0) ⟨n + 1, hn⟩ (stAt0 m c (n + 1) hn (held m c n h')) ∧
        ∀ a j, (stAt0 m c (n + 1) hn (held m c n h')).2.2.2.2.2.2 (ix2 a j) = ((held m c n h').2.2.2.2.2.2 (ix2 a j) : EReal) +
          errE (bc m c ⟨n + 1, hn⟩) (bw m c ⟨n + 1, hn⟩) (bb m c ⟨n + 1, hn⟩) (bs m c ⟨n + 1, hn⟩) (hT m c p0) j := by
      by_cases c1 : (n + 1) % 35 = 34
      · have s := stepC m c hr ⟨n + 1, hn⟩ _ _ _ (show ¬(n + 1) % 35 = 0 by omega) c1 ok
        exact ⟨s.1, s.2.1⟩
      · exact stepB m c hr ⟨n + 1, hn⟩ _ _ _ (show ¬(n + 1) % 35 = 0 by omega) c1 ok
    have step : held m c (n + 1) h = stAt0 m c (n + 1) hn (held m c n h') := by
      refine (Pipeline.accAt_succ _ _ _ _ h).trans ?_
      congr 1
      omega
    rw [step]
    refine ⟨key.1, fun a j => (key.2 a j).trans ?_⟩
    rw [sm, Finset.sum_range_succ _ (n + 1)]
    refine congrArg₂ (fun x y : EReal => x + y) rfl ?_
    unfold errP
    rw [dif_pos]

/-- The total after the last point. -/
theorem held_total (h : 0 + 34 < cfg0.N) (y : S1x1.Idx) :
    (held m c 34 h).2.2.1 y = ∑ j : Fin 256, ∑ i ∈ Finset.range 35, errP m c i j := by
  have hN : cfg0.N = 35 := N_0
  have h' : 0 + 33 < cfg0.N := by omega
  have hn : 34 < cfg0.N := by omega
  obtain ⟨ok, sm⟩ := held_ok m c hr hh 33 h'
  have s := stepC m c hr ⟨34, hn⟩ _ _ _ (show ¬34 % 35 = 0 by decide) (show 34 % 35 = 34 by decide) ok
  refine Eq.trans ?_ ((s.2.2 y).trans (Finset.sum_congr rfl fun j _ => ?_))
  · rfl
  · rw [sm, Finset.sum_range_succ _ 34]
    refine congrArg₂ (fun x y : EReal => x + y) rfl ?_
    unfold errP
    rw [dif_pos]

end Cert.KernelIdeal.State
-- ==== Proof.Blocks.lean ====
/- The input blocks of a grid point as entries of the arguments: point `t` works on the rows from `256 * t`. -/
module

public import proofs.«01_k».proof.Proof.State
public import Idealize.ShloMosaic.Lib.Claim

@[expose] public section

set_option maxRecDepth 16384

noncomputable section

namespace Cert.KernelIdeal.State

open Cert.KernelIdeal Cert.KernelIdeal.Gen Cert.KernelIdeal.Block Cert.KernelIdeal.Value Idealize.ShloMosaic Idealize.ShloMosaic.TcCoe

variable (m : (ℓ : Loc nD τ sig) → Buf (Elt Ideal) ℓ) (c : Dev nD)

/-- The weights. -/
abbrev aw : Vec Ideal S8960x1536 .bf16 := m ((c : Thread nD τ).loc main_arg0)
/-- The codes. -/
abbrev ac : Vec Ideal S8960x192x2 .i8 := m ((c : Thread nD τ).loc main_arg1)
/-- The codebooks. -/
abbrev ab : Vec Ideal S2x256x8 .bf16 := m ((c : Thread nD τ).loc main_arg2)
/-- The scales. -/
abbrev ag : Vec Ideal S8960x24 .f32 := m ((c : Thread nD τ).loc main_arg3)
/-- The matrix `h`. -/
abbrev ah : Vec Ideal S1536x1536 .f32 := m ((c : Thread nD τ).loc main_arg4)

/-- Which block each input window takes at a point. -/
theorem idx : ∀ t : Fin cfg0.N, win0_0.index t = ![0, 0, t.val] ∧ win0_1.index t = ![t.val, 0] ∧ win0_2.index t = ![0, 0, 0] ∧
    win0_3.index t = ![0, t.val] ∧ win0_4.index t = ![0, 0] := by
  decide +kernel

/-- Every point's rows are rows of the array. -/
theorem row_lt (t : Fin cfg0.N) (j : Fin 256) : 256 * t.val + j.val < 8960 := by
  have h : t.val < 35 := lt_of_lt_of_eq t.isLt N_0
  omega

/-- Row `j` of point `t`. -/
def row (t : Fin cfg0.N) (j : Fin 256) : Fin 8960 := ⟨256 * t.val + j.val, row_lt t j⟩

/-- The weights of a point. -/
theorem bw_apply (t : Fin cfg0.N) (j : Fin 256) (d : Fin 1536) : bw m c t (ix2 j d) = aw m c (ix2 (row t j) d) := by
  unfold row
  blk_ext [iblk, V, idx t]

/-- Every point reads the whole of `h`. -/
theorem bh_apply (t : Fin cfg0.N) (y) : bh m c t y = ah m c y := by
  obtain ⟨i, k, rfl⟩ : ∃ i k, y = ix2 i k := ⟨y 0, y 1, eq_ix2 y⟩
  blk_ext [iblk, V, idx t]

/-- The codes of a point, transposed. -/
theorem bc_apply (t : Fin cfg0.N) (a : Fin 2) (g : Fin 192) (j : Fin 256) : bc m c t (ix3 a g j) = ac m c (ix3 (row t j) g a) := by
  have e : bc m c t (ix3 a g j) = V m c main_v0 (ix3 a g (row t j)) := by
    unfold row
    blk_ext [iblk, idx t]
  rw [e]
  entry_read
  pointwise

/-- Every point reads both codebooks, transposed. -/
theorem bb_apply (t : Fin cfg0.N) (a : Fin 2) (r : Fin 8) (k : Fin 256) : bb m c t (ix3 a r k) = ab m c (ix3 a k r) := by
  have e : bb m c t (ix3 a r k) = V m c main_v1 (ix3 a r k) := by
    blk_ext [iblk, idx t]
  rw [e]
  entry_read
  pointwise

/-- The scales of a point, transposed. -/
theorem bs_apply (t : Fin cfg0.N) (b : Fin 24) (j : Fin 256) : bs m c t (ix2 b j) = ag m c (ix2 (row t j) b) := by
  have e : bs m c t (ix2 b j) = V m c main_v2 (ix2 b (row t j)) := by
    unfold row
    blk_ext [iblk, idx t]
  rw [e]
  entry_read
  pointwise

end Cert.KernelIdeal.State
-- ==== Proof.Finite.lean ====
/- What the precondition says of the arrays: every float entry is a real number. -/
module

public import proofs.«01_k».proof.Defs
public import proofs.«01_k».proof.Proof.Gen.Pre_finite
public import proofs.«01_k».proof.Proof.Blocks
public import Idealize.ShloMosaic.Lib.Pointwise

@[expose] public section

set_option maxRecDepth 16384

noncomputable section

namespace Cert.KernelIdeal.State

open Cert.KernelIdeal Cert.KernelIdeal.Gen Cert.KernelIdeal.Value Cert.KernelIdeal.Block Idealize.ShloMosaic

/-- An extended real whose absolute value is below infinity is a real number. -/
theorem real_of_lt (x : EReal) (h : Ideal.cmp .olt (max x (-x)) ⊤ = 1#1) : IsReal x := by
  induction x with
  | bot => exact absurd h (by simp [Ideal.cmp])
  | coe r => exact ⟨r, rfl⟩
  | top => exact absurd h (by simp [Ideal.cmp])

/-- The half-precision infinity the precondition compares with. -/
theorem inf16 : Ideal.ofBits .bf16 0x7F80#16 = ⊤ := by simp [Ideal.ofBits, Ideal.ieee]

/-- The single-precision infinity the precondition compares with. -/
theorem inf32 : Ideal.ofBits .f32 0x7F800000#32 = ⊤ := by simp [Ideal.ofBits, Ideal.ieee]

variable (m : (ℓ : Loc nD τ sig) → Buf (Elt Ideal) ℓ) (c : Dev nD)

/-- The weights are real. -/
theorem fin_w (hp : Pre_KernelIdeal_finite m) (y : S8960x1536.Idx) : IsReal (aw m c y) := by
  refine real_of_lt _ ?_
  rw [← inf16]
  exact congrFun (hp c).1 y

/-- The codebooks are real. -/
theorem fin_b (hp : Pre_KernelIdeal_finite m) (y : S2x256x8.Idx) : IsReal (ab m c y) := by
  refine real_of_lt _ ?_
  rw [← inf16]
  exact congrFun (hp c).2.1 y

/-- The scales are real. -/
theorem fin_g (hp : Pre_KernelIdeal_finite m) (y : S8960x24.Idx) : IsReal (ag m c y) := by
  refine real_of_lt _ ?_
  rw [← inf32]
  exact congrFun (hp c).2.2.1 y

/-- The entries of `h` are real. -/
theorem fin_h (hp : Pre_KernelIdeal_finite m) (y : S1536x1536.Idx) : IsReal (ah m c y) := by
  refine real_of_lt _ ?_
  rw [← inf32]
  exact congrFun (hp c).2.2.2 y

/-- The Hessian block a point reads is real. -/
theorem real_bh (hp : Pre_KernelIdeal_finite m) (t : Fin cfg0.N) (y : S1536x1536.Idx) : IsReal (bh m c t y) := by
  rw [bh_apply]
  exact fin_h m c hp y

/-- The residual of every point is real. -/
theorem real_res (hp : Pre_KernelIdeal_finite m) (t : Fin cfg0.N) (d : Fin 1536) (j : Fin 256) :
    IsReal (resE (bc m c t) (bw m c t) (bb m c t) (bs m c t) d j) := by
  unfold resE entry
  rw [bw_apply, bs_apply, bb_apply, bb_apply]
  exact (fin_w m c hp _).sub (((fin_b m c hp _).add (fin_b m c hp _)).mul (fin_g m c hp _))

end Cert.KernelIdeal.State
-- ==== Proof.RefRead.lean ====
/- The reference, entry by entry over the extended reals. -/
module

public import proofs.«01_k».proof.Proof.Gen.ReferenceIdeal.Read
public import Idealize.ShloMosaic.Lib.Pointwise

@[expose] public section

set_option maxRecDepth 16384

noncomputable section

namespace Cert.ReferenceIdeal.Entry

open Cert.ReferenceIdeal Cert.ReferenceIdeal.Gen Cert.ReferenceIdeal.Read Idealize.ShloMosaic

variable (w : Vec Ideal S8960x1536 .bf16) (k : Vec Ideal S8960x192x2 .i8) (b : Vec Ideal S2x256x8 .bf16) (s : Vec Ideal S8960x24 .f32)
  (h : Vec Ideal S1536x1536 .f32)

/-! ## The lookup -/

/-- The gather reads the codebook that the first start index names, at the entry that the second one names. -/
theorem gather_apply (x : Vec Ideal S2x256x8 .f32) (i : IVec S8960x192x2x2 32) (o : Fin 8960) (g : Fin 192) (m : Fin 2) (v : Fin 8) :
    Host.gather gather_S2x256x8_S8960x192x2x2_S8960x192x2x8_3_01_n_n_01_3_118 x i (ix4 o g m v) =
      x (ix3 ⟨min (i (ix4 o g m 0)).toInt.toNat 1, by omega⟩ ⟨min (i (ix4 o g m 1)).toInt.toNat 255, by omega⟩ v) := by
  unfold Host.gather
  refine congrArg x (funext fun a => Fin.ext ?_)
  show GatherDims.start _ (ix4 o g m v) i a + GatherDims.batchCoord _ (ix4 o g m v) a + GatherDims.offCoord _ (ix4 o g m v) a = _
  rw [GatherDims.batchCoord_eq_zero _ _ _ List.not_mem_nil]
  match a with
  | ⟨0, _⟩ =>
    show GatherDims.start gather_S2x256x8_S8960x192x2x2_S8960x192x2x8_3_01_n_n_01_3_118 (ix4 o g m v) i (0 : Fin 3) + 0 +
      GatherDims.offCoord gather_S2x256x8_S8960x192x2x2_S8960x192x2x8_3_01_n_n_01_3_118 (ix4 o g m v) (0 : Fin 3) = min (i (ix4 o g m 0)).toInt.toNat 1
    rw [GatherDims.offCoord_eq_zero _ _ _ (show (0 : Fin 3) ∉ gather_S2x256x8_S8960x192x2x2_S8960x192x2x8_3_01_n_n_01_3_118.sKept by decide)]
    unfold GatherDims.start
    rw [dif_pos (show (0 : Fin 3) ∈ gather_S2x256x8_S8960x192x2x2_S8960x192x2x8_3_01_n_n_01_3_118.startIndexMap by decide)]
    refine congrArg (fun z => min (i z).toInt.toNat 1) (funext fun c => Fin.ext ?_)
    match c with
    | ⟨0, _⟩ => rfl
    | ⟨1, _⟩ => rfl
    | ⟨2, _⟩ => rfl
    | ⟨3, _⟩ => rfl
  | ⟨1, _⟩ =>
    show GatherDims.start gather_S2x256x8_S8960x192x2x2_S8960x192x2x8_3_01_n_n_01_3_118 (ix4 o g m v) i (1 : Fin 3) + 0 +
      GatherDims.offCoord gather_S2x256x8_S8960x192x2x2_S8960x192x2x8_3_01_n_n_01_3_118 (ix4 o g m v) (1 : Fin 3) = min (i (ix4 o g m 1)).toInt.toNat 255
    rw [GatherDims.offCoord_eq_zero _ _ _ (show (1 : Fin 3) ∉ gather_S2x256x8_S8960x192x2x2_S8960x192x2x8_3_01_n_n_01_3_118.sKept by decide)]
    unfold GatherDims.start
    rw [dif_pos (show (1 : Fin 3) ∈ gather_S2x256x8_S8960x192x2x2_S8960x192x2x8_3_01_n_n_01_3_118.startIndexMap by decide)]
    refine congrArg (fun z => min (i z).toInt.toNat 255) (funext fun c => Fin.ext ?_)
    match c with
    | ⟨0, _⟩ => rfl
    | ⟨1, _⟩ => rfl
    | ⟨2, _⟩ => rfl
    | ⟨3, _⟩ => rfl
  | ⟨2, _⟩ =>
    show GatherDims.start gather_S2x256x8_S8960x192x2x2_S8960x192x2x8_3_01_n_n_01_3_118 (ix4 o g m v) i (2 : Fin 3) + 0 +
      GatherDims.offCoord gather_S2x256x8_S8960x192x2x2_S8960x192x2x8_3_01_n_n_01_3_118 (ix4 o g m v) (2 : Fin 3) = v.val
    unfold GatherDims.start GatherDims.offCoord
    rw [dif_neg (show (2 : Fin 3) ∉ gather_S2x256x8_S8960x192x2x2_S8960x192x2x8_3_01_n_n_01_3_118.startIndexMap by decide),
      dif_pos (show (2 : Fin 3) ∈ gather_S2x256x8_S8960x192x2x2_S8960x192x2x8_3_01_n_n_01_3_118.sKept by decide)]
    show 0 + 0 + v.val = v.val
    omega

/-- The codebook index, wrapped if negative, is the codebook's number. -/
theorem book_word : ∀ m : Fin 2, (Scalar.select (IntOp.cmpi .slt (BitVec.ofNat 32 m.val) 0#32) (IntOp.addi (BitVec.ofNat 32 m.val) 2#32)
    (BitVec.ofNat 32 m.val)).toInt.toNat = m.val := by
  decide +kernel

/-- The code as an index, wrapped if negative, is the code. -/
theorem code_word : ∀ c : Fin 256, (Scalar.select (IntOp.cmpi .slt ((BitVec.ofFin c : BitVec 8).setWidth 32) 0#32)
    (IntOp.addi ((BitVec.ofFin c : BitVec 8).setWidth 32) 256#32) ((BitVec.ofFin c : BitVec 8).setWidth 32)).toInt.toNat = c.val := by
  decide +kernel

/-- The first start index names the codebook. -/
theorem start0 (o : Fin 8960) (g : Fin 192) (m : Fin 2) : (val_main_v16 (F := Ideal) k (ix4 o g m 0)).toInt.toNat = m.val := by
  rw [← book_word m]
  refine congrArg (fun z : BitVec 32 => z.toInt.toNat) ?_
  pointwise [val_main_v16, val_main_v14, val_main_v13, val_main_v7, val_main_v6, val_main_v5, val_main_c_0, val_main_v4, val_main_v3, val_main_c, val_main_v2]

/-- The second start index is the code. -/
theorem start1 (o : Fin 8960) (g : Fin 192) (m : Fin 2) : (val_main_v16 (F := Ideal) k (ix4 o g m 1)).toInt.toNat = (k (ix3 o g m) : BitVec 8).toNat := by
  have e : val_main_v16 (F := Ideal) k (ix4 o g m 1) = Scalar.select (IntOp.cmpi .slt ((k (ix3 o g m) : BitVec 8).setWidth 32) 0#32)
    (IntOp.addi ((k (ix3 o g m) : BitVec 8).setWidth 32) 256#32) ((k (ix3 o g m) : BitVec 8).setWidth 32) := by
    pointwise [val_main_v16, val_main_v15, val_main_v12, val_main_v11, val_main_v10, val_main_c_2, val_main_v9, val_main_v8, val_main_c_1, val_main_v1]
  rw [e]
  generalize (k (ix3 o g m) : BitVec 8) = c
  obtain ⟨c⟩ := c
  exact code_word c

/-- Codebook `m`'s entry for row `o` and group `g`. -/
theorem look_apply (o : Fin 8960) (g : Fin 192) (m : Fin 2) (v : Fin 8) :
    val_main_v17 (F := Ideal) k b (ix4 o g m v) = (b (ix3 m ⟨(k (ix3 o g m) : BitVec 8).toNat, (k (ix3 o g m) : BitVec 8).isLt⟩ v) : EReal) := by
  have hc : (k (ix3 o g m) : BitVec 8).toNat < 256 := (k (ix3 o g m) : BitVec 8).isLt
  unfold val_main_v17
  rw [gather_apply]
  refine (val_main_v0_apply _ _).trans (congrArg (fun z => (b z : EReal)) (congrArg₂ (fun p q => ix3 p q v) (Fin.ext ?_) (Fin.ext ?_)))
  · show min (val_main_v16 (F := Ideal) k (ix4 o g m 0)).toInt.toNat 1 = m.val
    rw [start0]
    omega
  · show min (val_main_v16 (F := Ideal) k (ix4 o g m 1)).toInt.toNat 255 = (k (ix3 o g m) : BitVec 8).toNat
    rw [start1]
    omega

/-! ## The residual and the errors -/

/-- The residual: the weight minus the scaled sum of both codebooks' entries. -/
def res (o : Fin 8960) (d : Fin 1536) : EReal :=
  (w (ix2 o d) : EReal) - (∑ m : Fin 2, (b (ix3 m ⟨(k (ix3 o ⟨d.val / 8, by omega⟩ m) : BitVec 8).toNat, (k (ix3 o ⟨d.val / 8, by omega⟩ m) : BitVec 8).isLt⟩
    ⟨d.val % 8, Nat.mod_lt _ (by omega)⟩) : EReal)) * (s (ix2 o ⟨d.val / 64, by omega⟩) : EReal)

/-- A group's error. -/
def group (o : Fin 8960) (g : Fin 192) : EReal :=
  ∑ i : Fin 8, res w k b s o ⟨8 * g.val + i.val, by omega⟩ *
    ∑ q : Fin 1536, res w k b s o q * (h (ix2 q ⟨8 * g.val + i.val, by omega⟩) : EReal)

/-- A row's error. -/
def rowErr (o : Fin 8960) : EReal := ∑ g : Fin 192, group w k b s h o g

/-- The sum over the codebooks at an entry. -/
theorem sum_apply (o : Fin 8960) (g : Fin 192) (v : Fin 8) :
    val_main_v18 (F := Ideal) k b (ix3 o g v) = ∑ m : Fin 2, (b (ix3 m ⟨(k (ix3 o g m) : BitVec 8).toNat, (k (ix3 o g m) : BitVec 8).isLt⟩ v) : EReal) := by
  have e : val_main_v18 (F := Ideal) k b (ix3 o g v) = ∑ m : Fin 2, (val_main_v17 (F := Ideal) k b (ix4 o g m v) : EReal) := by
    unfold val_main_v18
    generalize val_main_v17 (F := Ideal) k b = x
    pointwise [val_main_cst]
  rw [e]
  exact Finset.sum_congr rfl fun m _ => look_apply k b o g m v

/-- The decoded weight at an entry. -/
theorem hat_apply (o : Fin 8960) (d : Fin 1536) :
    val_main_v23 (F := Ideal) k b s (ix2 o d) =
      (val_main_v18 (F := Ideal) k b (ix3 o ⟨d.val / 8, by omega⟩ ⟨d.val % 8, Nat.mod_lt _ (by omega)⟩) : EReal) * (s (ix2 o ⟨d.val / 64, by omega⟩) : EReal) := by
  unfold val_main_v23 val_main_v22 val_main_v19
  generalize val_main_v18 (F := Ideal) k b = x
  rw [shapeCast_apply (k := ix3 o ⟨d.val / 64, by omega⟩ ⟨d.val % 64, Nat.mod_lt _ (by omega)⟩)]
  · rw [mulf_apply, shapeCast_apply (k := ix3 o ⟨d.val / 8, by omega⟩ ⟨d.val % 8, Nat.mod_lt _ (by omega)⟩)]
    · pointwise [val_main_v21, val_main_v20]
    · rw [Shape.rowMajor_val_three, Shape.rowMajor_val_three]
      show (o.val * 192 + d.val / 8) * 8 + d.val % 8 = (o.val * 24 + d.val / 64) * 64 + d.val % 64
      omega
  · rw [Shape.rowMajor_val_three, Shape.rowMajor_val_two]
    show (o.val * 24 + d.val / 64) * 64 + d.val % 64 = o.val * 1536 + d.val
    omega

/-- The residual at an entry. -/
theorem res_apply (o : Fin 8960) (d : Fin 1536) : val_main_v25 (F := Ideal) w k b s (ix2 o d) = res w k b s o d := by
  rw [val_main_v25_apply, val_main_v24_apply, hat_apply, sum_apply]
  rfl

/-- The residual times `h` at an entry. -/
theorem prod_apply (o : Fin 8960) (d : Fin 1536) :
    val_main_v26 (F := Ideal) w k b s h (ix2 o d) = ∑ q : Fin 1536, res w k b s o q * (h (ix2 q d) : EReal) := by
  have e : val_main_v26 (F := Ideal) w k b s h (ix2 o d) = ∑ q : Fin 1536, (val_main_v25 (F := Ideal) w k b s (ix2 o q) : EReal) * (h (ix2 q d) : EReal) := by
    unfold val_main_v26
    generalize val_main_v25 (F := Ideal) w k b s = x
    pointwise
  rw [e]
  exact Finset.sum_congr rfl fun q _ => congrArg (fun z : EReal => z * (h (ix2 q d) : EReal)) (res_apply w k b s o q)

/-- A group's error. -/
theorem group_apply (o : Fin 8960) (g : Fin 192) : val_main_v29 (F := Ideal) w k b s h (ix2 o g) = group w k b s h o g := by
  have e : val_main_v29 (F := Ideal) w k b s h (ix2 o g) = ∑ i : Fin 8, (val_main_v28 (F := Ideal) w k b s h (ix3 o g i) : EReal) := by
    unfold val_main_v29
    generalize val_main_v28 (F := Ideal) w k b s h = x
    pointwise [val_main_cst_3]
  rw [e]
  refine Finset.sum_congr rfl fun i _ => ?_
  unfold val_main_v28
  rw [shapeCast_apply (k := ix2 o ⟨8 * g.val + i.val, by omega⟩)]
  · rw [val_main_v27_apply, res_apply, prod_apply]
    rfl
  · rw [Shape.rowMajor_val_three, Shape.rowMajor_val_two]
    show o.val * 1536 + (8 * g.val + i.val) = (o.val * 192 + g.val) * 8 + i.val
    omega

/-- A row's error. -/
theorem row_apply (o : Fin 8960) : val_main_v30 (F := Ideal) w k b s h (ix1 o) = rowErr w k b s h o := by
  have e : val_main_v30 (F := Ideal) w k b s h (ix1 o) = ∑ g : Fin 192, (val_main_v29 (F := Ideal) w k b s h (ix2 o g) : EReal) := by
    unfold val_main_v30
    generalize val_main_v29 (F := Ideal) w k b s h = x
    pointwise [val_main_cst_4]
  rw [e]
  exact Finset.sum_congr rfl fun g _ => group_apply w k b s h o g

/-! ## The three results -/

/-- The first result: the rows' errors. -/
theorem rows_apply (a : Fin 1) (o : Fin 8960) : val_main_v32 (F := Ideal) w k b s h (ix2 a o) = rowErr w k b s h o := by
  rw [← row_apply]
  unfold val_main_v32
  generalize val_main_v30 (F := Ideal) w k b s h = x
  pointwise

/-- The second result: the groups' errors, transposed. -/
theorem groups_apply (g : Fin 192) (o : Fin 8960) : val_main_v33 (F := Ideal) w k b s h (ix2 g o) = group w k b s h o g := by
  rw [← group_apply]
  unfold val_main_v33
  generalize val_main_v29 (F := Ideal) w k b s h = x
  pointwise

/-- The third result: the sum of all rows' errors. -/
theorem total_apply (y : S1x1.Idx) : val_main_v34 (F := Ideal) w k b s h y = ∑ o : Fin 8960, rowErr w k b s h o := by
  obtain ⟨p, q, rfl⟩ : ∃ p q, y = ix2 p q := ⟨y 0, y 1, eq_ix2 y⟩
  have e : val_main_v34 (F := Ideal) w k b s h (ix2 p q) = ∑ o : Fin 8960, (val_main_v30 (F := Ideal) w k b s h (ix1 o) : EReal) := by
    unfold val_main_v34 val_main_v31
    generalize val_main_v30 (F := Ideal) w k b s h = x
    pointwise [val_main_cst_5]
  rw [e]
  exact Finset.sum_congr rfl fun o _ => row_apply w k b s h o

end Cert.ReferenceIdeal.Entry
-- ==== Proof.Arrays.lean ====
/- The kernel's three result arrays and the reference's are the same sums. -/
module

public import proofs.«01_k».proof.Proof.Finite
public import proofs.«01_k».proof.Proof.RefRead

@[expose] public section

set_option maxRecDepth 16384

noncomputable section

namespace Cert.KernelIdeal.State

open Cert.KernelIdeal Cert.KernelIdeal.Gen Cert.KernelIdeal.Value Cert.KernelIdeal.Block Idealize.ShloMosaic
open Cert.ReferenceIdeal.Entry (res group rowErr)

variable (m : (ℓ : Loc nD τ sig) → Buf (Elt Ideal) ℓ) (c : Dev nD)

/-! ## One point's errors are its rows' errors -/

/-- A point's residual is the reference's, at the point's rows. -/
theorem res_row (t : Fin cfg0.N) (d : Fin 1536) (j : Fin 256) :
    resE (bc m c t) (bw m c t) (bb m c t) (bs m c t) d j = res (aw m c) (ac m c) (ab m c) (ag m c) (row t j) d := by
  unfold resE res
  rw [bw_apply, bs_apply, bc_apply, bc_apply, Fin.sum_univ_two]
  unfold entry
  rw [bb_apply, bb_apply]

/-- A point's group errors are its rows' group errors. -/
theorem group_row (t : Fin cfg0.N) (g : Fin 192) (j : Fin 256) :
    egE (bc m c t) (bw m c t) (bb m c t) (bs m c t) (hT m c p0) g j = group (aw m c) (ac m c) (ab m c) (ag m c) (ah m c) (row t j) g := by
  unfold egE group yE
  refine Finset.sum_congr rfl fun i _ => ?_
  rw [res_row]
  refine congrArg (fun z : EReal => _ * z) (Finset.sum_congr rfl fun q _ => ?_)
  rw [res_row]
  exact (mul_comm _ _).trans (congrArg (fun z : EReal => _ * z) (bh_apply m c p0 _))

/-- A point's row errors are its rows' errors. -/
theorem err_row (t : Fin cfg0.N) (j : Fin 256) :
    errE (bc m c t) (bw m c t) (bb m c t) (bs m c t) (hT m c p0) j = rowErr (aw m c) (ac m c) (ab m c) (ag m c) (ah m c) (row t j) :=
  Finset.sum_congr rfl fun g _ => group_row m c t g j

/-- A row is its point and its place in the point's block. -/
theorem row_of (o : Fin 8960) (n : ℕ) (hn : n < cfg0.N) (j : Fin 256) (e : n = o.val / 256) (f : j.val = o.val % 256) : row ⟨n, hn⟩ j = o := by
  refine Fin.ext ?_
  show 256 * n + j.val = o.val
  omega

/-! ## The arrays -/

/-- The array of group errors. -/
theorem groups_at (hp : Pre_KernelIdeal_finite m) (g : Fin 192) (o : Fin 8960) :
    G5 m c (ix2 g o) = group (aw m c) (ac m c) (ab m c) (ag m c) (ah m c) o g := by
  have hN : cfg0.N = 35 := N_0
  have hq : pt5Of (ix2 g o) = o.val / 256 := by
    show 35 * (g.val / 192 - 0) + 1 * (o.val / 256 - 0) = _
    omega
  have hl : loc5Of (ix2 g o) = ix2 g ⟨o.val % 256, Nat.mod_lt _ (by omega)⟩ := by
    funext a
    refine Fin.ext ?_
    match a with
    | ⟨0, _⟩ => show g.val % 192 = g.val; omega
    | ⟨1, _⟩ => rfl
  unfold G5
  have hd : pt5Of (ix2 g o) < cfg0.N := by omega
  rw [dif_pos hd, hl]
  have ok := (held_ok m c (real_res m c hp) (real_bh m c hp) (pt5Of (ix2 g o)) (by omega)).1.eg
  refine (congrFun ok _).trans ((group_row m c _ g ⟨o.val % 256, Nat.mod_lt _ (by omega)⟩).trans ?_)
  exact congrArg (fun r => group (aw m c) (ac m c) (ab m c) (ag m c) (ah m c) r g) (row_of o _ _ _ hq rfl)

/-- The array of row errors. -/
theorem rows_at (hp : Pre_KernelIdeal_finite m) (a : Fin 1) (o : Fin 8960) :
    G6 m c (ix2 a o) = rowErr (aw m c) (ac m c) (ab m c) (ag m c) (ah m c) o := by
  have hN : cfg0.N = 35 := N_0
  have hq : pt6Of (ix2 a o) = o.val / 256 := by
    show 35 * (a.val / 1 - 0) + 1 * (o.val / 256 - 0) = _
    omega
  have hl : loc6Of (ix2 a o) = ix2 0 ⟨o.val % 256, Nat.mod_lt _ (by omega)⟩ := by
    funext b
    refine Fin.ext ?_
    match b with
    | ⟨0, _⟩ => show a.val % 1 = 0; omega
    | ⟨1, _⟩ => rfl
  unfold G6
  have hd : pt6Of (ix2 a o) < cfg0.N := by omega
  rw [dif_pos hd, hl]
  have ok := (held_ok m c (real_res m c hp) (real_bh m c hp) (pt6Of (ix2 a o)) (by omega)).1.e
  refine (ok _ _).trans ((err_row m c _ _).trans ?_)
  exact congrArg (fun r => rowErr (aw m c) (ac m c) (ab m c) (ag m c) (ah m c) r) (row_of o _ _ _ hq rfl)

/-- The sum of all rows' errors is the sum over the places in a block and over the points. -/
theorem sum_rows (f : Fin 8960 → EReal) (p : ℕ → Fin 256 → EReal) (h : ∀ (i : Fin 35) (j : Fin 256), p i.val j = f ⟨256 * i.val + j.val, by omega⟩) :
    ∑ j : Fin 256, ∑ i ∈ Finset.range 35, p i j = ∑ o : Fin 8960, f o := by
  let q : ℕ → EReal := fun n => if h : n < 8960 then f ⟨n, h⟩ else 0
  have hq (n : ℕ) (h : n < 8960) : q n = f ⟨n, h⟩ := dif_pos h
  have s : ∑ o : Fin 8960, q (256 * (o.val / 256) + o.val % 256) = ∑ i : Fin 35, ∑ j : Fin 256, q (256 * i.val + j.val) :=
    Fin.sum_univ_mul_divmod 35 256 (fun i j => q (256 * i + j))
  rw [Finset.sum_comm, Finset.sum_range]
  refine Eq.trans (Finset.sum_congr rfl fun i _ => Finset.sum_congr rfl fun j _ => ?_) (s.symm.trans (Finset.sum_congr rfl fun o _ => ?_))
  · rw [h, hq]
  · rw [Nat.div_add_mod, hq o.val o.isLt]

/-- The row errors of point `i`, by the row's number. -/
theorem errP_row (i : Fin 35) (j : Fin 256) :
    errP m c i.val j = rowErr (aw m c) (ac m c) (ab m c) (ag m c) (ah m c) ⟨256 * i.val + j.val, by omega⟩ := by
  have hi : i.val < cfg0.N := lt_of_lt_of_eq i.isLt N_0.symm
  unfold errP
  rw [dif_pos hi]
  exact err_row m c ⟨i.val, hi⟩ j

/-- The total is what is held after the last point. -/
theorem last_eq (n : ℕ) (hn : n = 34) (h : 0 + n < cfg0.N) (y : S1x1.Idx) : G7 m c y = (held m c n h).2.2.1 y := by
  rw [G7_last, fold0_congr m c _ _ n h hn.symm]

/-- What is held after the last point is the sum of all rows' errors. -/
theorem held_rows (hp : Pre_KernelIdeal_finite m) (h : 0 + 34 < cfg0.N) (y : S1x1.Idx) :
    (held m c 34 h).2.2.1 y = ∑ o : Fin 8960, rowErr (aw m c) (ac m c) (ab m c) (ag m c) (ah m c) o := by
  have e := held_total m c (real_res m c hp) (real_bh m c hp) h y
  have f := sum_rows (rowErr (aw m c) (ac m c) (ab m c) (ag m c) (ah m c)) (errP m c) (errP_row m c)
  rw [f] at e
  exact e

/-- The total. -/
theorem total_at (hp : Pre_KernelIdeal_finite m) (y : S1x1.Idx) :
    G7 m c y = ∑ o : Fin 8960, rowErr (aw m c) (ac m c) (ab m c) (ag m c) (ah m c) o := by
  have h : 0 + 34 < cfg0.N := lt_of_lt_of_eq (by decide) N_0.symm
  rw [last_eq m c 34 rfl h]
  exact held_rows m c hp h y

end Cert.KernelIdeal.State
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Arrays
public import Idealize.ShloMosaic.Adequacy
public import Idealize.ShloMosaic.Init

@[expose] public section

noncomputable section

namespace Cert.Proof

open Idealize.ShloMosaic Idealize.SL.Sem
open Cert.KernelIdeal.State (aw ac ab ag ah groups_at rows_at total_at)

/-- The kernel terminates and leaves its arguments unchanged. -/
theorem frame_kernel : Cert.quiescent_Kernel := fun m ρ _ => Cert.Kernel.Gen.frame m ρ

/-- So does its ideal reading. -/
theorem frame_ideal : Cert.quiescent_KernelIdeal := fun m ρ _ => Cert.KernelIdeal.Gen.frame m ρ

/-- And so it does under the precondition. -/
theorem frame_ideal_finite : Cert.quiescent_KernelIdeal_pre_finite := fun m ρ _ => Cert.KernelIdeal.Gen.frame m ρ

/-- The reference terminates and leaves its arguments unchanged. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- And so it does under the precondition. -/
theorem frame_reference_finite : Cert.quiescent_ReferenceIdeal_pre_finite := fun m ρ _ => frame_reference m ρ trivial

section
variable (m : (ℓ : Loc Cert.KernelIdeal.nD Cert.KernelIdeal.τ Cert.KernelIdeal.sig) → Buf (Elt Ideal) ℓ) (c : Dev Cert.KernelIdeal.nD)
  (hp : Cert.Pre_KernelIdeal_finite m)

include hp

/-- The row errors are equal. -/
theorem rows_eq : Cert.ReferenceIdeal.Read.val_main_v32 (F := Ideal) (aw m c) (ac m c) (ab m c) (ag m c) (ah m c) = Cert.KernelIdeal.Value.G6 m c := by
  funext y
  obtain ⟨a, o, rfl⟩ : ∃ a o, y = ix2 a o := ⟨y 0, y 1, eq_ix2 y⟩
  exact (Cert.ReferenceIdeal.Entry.rows_apply _ _ _ _ _ a o).trans (rows_at m c hp a o).symm

/-- The group errors are equal. -/
theorem groups_eq : Cert.ReferenceIdeal.Read.val_main_v33 (F := Ideal) (aw m c) (ac m c) (ab m c) (ag m c) (ah m c) = Cert.KernelIdeal.Value.G5 m c := by
  funext y
  obtain ⟨g, o, rfl⟩ : ∃ g o, y = ix2 g o := ⟨y 0, y 1, eq_ix2 y⟩
  exact (Cert.ReferenceIdeal.Entry.groups_apply _ _ _ _ _ g o).trans (groups_at m c hp g o).symm

/-- The totals are equal. -/
theorem total_eq : Cert.ReferenceIdeal.Read.val_main_v34 (F := Ideal) (aw m c) (ac m c) (ab m c) (ag m c) (ah m c) = Cert.KernelIdeal.Value.G7 m c := by
  funext y
  exact (Cert.ReferenceIdeal.Entry.total_apply _ _ _ _ _ y).trans (total_at m c hp y).symm

end

/-- Kernel and reference return the same three arrays over the extended reals. -/
theorem algebraic : Cert.algebraic_KernelIdeal_ReferenceIdeal_pre_finite := by
  intro m ρ m' ρ' hp hagree
  refine ⟨fun c => Cert.KernelIdeal.Value.G6 m c, fun c => Cert.KernelIdeal.Value.G5 m c, fun c => Cert.KernelIdeal.Value.G7 m c, ?_, ?_⟩
  · exact (θ_run Cert.KernelIdeal.defs _ _).mono (fun r h c => ⟨(h c).2.1, (h c).1, (h c).2.2⟩) (Cert.KernelIdeal.Value.run (F := Ideal) m ρ)
  · refine (θ_run Cert.ReferenceIdeal.defs _ _).mono (fun r h c => ?_) (Cert.ReferenceIdeal.Value.run (F := Ideal) m' ρ')
    obtain ⟨e0, e1, e2, ha⟩ := h c
    obtain ⟨a0, a1, a2, a3, a4⟩ := hagree c
    have e0 := e0.trans (Cert.ReferenceIdeal.Read.val_main_v32_eq (F := Ideal) _ _ _ _ _)
    rw [a0, a1, a2, a3, a4] at e0
    have e1 := e1.trans (Cert.ReferenceIdeal.Read.val_main_v33_eq (F := Ideal) _ _ _ _ _)
    rw [a0, a1, a2, a3, a4] at e1
    have e2 := e2.trans (Cert.ReferenceIdeal.Read.val_main_v34_eq (F := Ideal) _ _ _ _ _)
    rw [a0, a1, a2, a3, a4] at e2
    exact ⟨e0.trans (rows_eq m c hp), e1.trans (groups_eq m c hp), e2.trans (total_eq m c hp), ha⟩

/-- Everything claimed. -/
theorem claim : Cert.Claim := ⟨Cert.Kernel.Gen.facts, Cert.KernelIdeal.Gen.facts, Cert.ReferenceIdeal.Gen.facts, Cert.Pre_finite.Gen.facts,
  frame_kernel, frame_ideal, frame_ideal_finite, frame_reference, frame_reference_finite, trivial, algebraic⟩

end Cert.Proof

end
